-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S1 : Shape := ⟨1, ![1]⟩
abbrev S32x2048x128 : Shape := ⟨3, ![32, 2048, 128]⟩
abbrev S32x64x128 : Shape := ⟨3, ![32, 64, 128]⟩
abbrev S11 : Shape := ⟨1, ![11]⟩
abbrev S32 : Shape := ⟨1, ![32]⟩
abbrev S_ : Shape := ⟨0, ![]⟩
abbrev S128x2048 : Shape := ⟨2, ![128, 2048]⟩
abbrev S2048x64 : Shape := ⟨2, ![2048, 64]⟩
abbrev S1x2048x64 : Shape := ⟨3, ![1, 2048, 64]⟩
abbrev S1x2048x128 : Shape := ⟨3, ![1, 2048, 128]⟩
abbrev S2048x128 : Shape := ⟨2, ![2048, 128]⟩
abbrev S128x64 : Shape := ⟨2, ![128, 64]⟩
abbrev S2x2048x128 : Shape := ⟨3, ![2, 2048, 128]⟩
abbrev S64x64 : Shape := ⟨2, ![64, 64]⟩
abbrev S1x64x64 : Shape := ⟨3, ![1, 64, 64]⟩
abbrev S1x64x128 : Shape := ⟨3, ![1, 64, 128]⟩
abbrev S64x128 : Shape := ⟨2, ![64, 128]⟩
abbrev S4x2048x128 : Shape := ⟨3, ![4, 2048, 128]⟩

abbrev nBuf : Space → Nat
  | .hbm => 5
  | .vmem => 6
  | .smem => 2
  | _ => 0

abbrev bufTy : (tb : Table) → Fin (tcTables nBuf tb) → BufTy
  | .hbm, ⟨0, _⟩ => ⟨S128x4096, .fp8e4m3⟩
  | .hbm, ⟨1, _⟩ => ⟨S4096x64, .fp8e4m3⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .fp8e4m3⟩
  | .local _ .vmem, ⟨1, _⟩ => ⟨S4096x64, .fp8e4m3⟩
  | .local _ .vmem, ⟨2, _⟩ => ⟨S4096x64, .f32⟩
  | .local _ .vmem, ⟨3, _⟩ => ⟨S32x2048x128, .fp8e4m3⟩
  | .local _ .vmem, ⟨4, _⟩ => ⟨S32x64x128, .bf16⟩
  | .local _ .vmem, ⟨5, _⟩ => ⟨S32x64x128, .bf16⟩
  | .local _ .smem, ⟨0, _⟩ => ⟨S1, .f32⟩
  | .local _ .smem, ⟨1, _⟩ => ⟨S1, .f32⟩
  | _, _ => ⟨S128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  (ofTc nBuf bufTy 1 91 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v4 : BitVec 32 := Scalar.xori v2 c16_i32
  let c1_i32_1 : BitVec 32 := 1#32
  let v5 : BitVec 32 := Scalar.muli v4 c1_i32_1
  let v6 : BitVec 32 := Scalar.addi c0_i32 v5
  v6.toNat
def k0_dev2 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v7 : BitVec 32 := Scalar.xori v2 c4_i32
  let c1_i32_3 : BitVec 32 := 1#32
  let v8 : BitVec 32 := Scalar.muli v7 c1_i32_3
  let v9 : BitVec 32 := Scalar.addi c0_i32_4 v8
  v9.toNat
def k0_dev3 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 32 := Scalar.xori v2 c2_i32
  let c1_i32_6 : BitVec 32 := 1#32
  let v11 : BitVec 32 := Scalar.muli v10 c1_i32_6
  let v12 : BitVec 32 := Scalar.addi c0_i32_7 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_8 : BitVec 32 := 1#32
  let v13 : BitVec 32 := Scalar.xori v2 c1_i32_8
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v16 : BitVec 32 := Scalar.xori v2 c8_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v27 : BitVec 32 := Scalar.muli v2 c128_i32
  let v50 : Index := Scalar.indexCast v27
  let c0_31 : Index := 0#32
  ![v50.toNat, 0]
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_32 : BitVec 32 := 16#32
  let v52 : BitVec 32 := Scalar.xori v2 c16_i32_32
  let c1_i32_45 : BitVec 32 := 1#32
  let v63 : BitVec 32 := Scalar.muli v52 c1_i32_45
  let v64 : BitVec 32 := Scalar.addi c0_i32_46 v63
  v64.toNat
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_33 : BitVec 32 := 4#32
  let v53 : BitVec 32 := Scalar.xori v2 c4_i32_33
  let c1_i32_55 : BitVec 32 := 1#32
  let v71 : BitVec 32 := Scalar.muli v53 c1_i32_55
  let v72 : BitVec 32 := Scalar.addi c0_i32_56 v71
  v72.toNat
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_34 : BitVec 32 := 4#32
  let v54 : BitVec 32 := Scalar.xori v2 c4_i32_34
  let c1_i32_75 : BitVec 32 := 1#32
  let v85 : BitVec 32 := Scalar.muli v54 c1_i32_75
  let v86 : BitVec 32 := Scalar.addi c0_i32_76 v85
  v86.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_35 : BitVec 32 := 2#32
  let v55 : BitVec 32 := Scalar.xori v2 c2_i32_35
  let c1_i32_84 : BitVec 32 := 1#32
  let v93 : BitVec 32 := Scalar.muli v55 c1_i32_84
  let v94 : BitVec 32 := Scalar.addi c0_i32_85 v93
  v94.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_92 : BitVec 32 := 16#32
  let v101 : BitVec 32 := Scalar.xori v2 c16_i32_92
  let c1_i32_108 : BitVec 32 := 1#32
  let v123 : BitVec 32 := Scalar.muli v101 c1_i32_108
  let v124 : BitVec 32 := Scalar.addi c0_i32_109 v123
  v124.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_36 : BitVec 32 := 2#32
  let v56 : BitVec 32 := Scalar.xori v2 c2_i32_36
  let c1_i32_136 : BitVec 32 := 1#32
  let v145 : BitVec 32 := Scalar.muli v56 c1_i32_136
  let v146 : BitVec 32 := Scalar.addi c0_i32_137 v145
  v146.toNat
def k0_dev12 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_37 : BitVec 32 := 1#32
  let v57 : BitVec 32 := Scalar.xori v2 c1_i32_37
  let c1_i32_145 : BitVec 32 := 1#32
  let v153 : BitVec 32 := Scalar.muli v57 c1_i32_145
  let v154 : BitVec 32 := Scalar.addi c0_i32_146 v153
  v154.toNat
def k0_dev13 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_153 : BitVec 32 := 4#32
  let v161 : BitVec 32 := Scalar.xori v2 c4_i32_153
  let c1_i32_169 : BitVec 32 := 1#32
  let v183 : BitVec 32 := Scalar.muli v161 c1_i32_169
  let v184 : BitVec 32 := Scalar.addi c0_i32_170 v183
  v184.toNat
def k0_dev14 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v193 : BitVec 32 := Scalar.xori v2 c20_i32
  let c1_i32_190 : BitVec 32 := 1#32
  let v215 : BitVec 32 := Scalar.muli v193 c1_i32_190
  let v216 : BitVec 32 := Scalar.addi c0_i32_191 v215
  v216.toNat
def k0_dev15 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_38 : BitVec 32 := 1#32
  let v58 : BitVec 32 := Scalar.xori v2 c1_i32_38
  let c1_i32_218 : BitVec 32 := 1#32
  let v237 : BitVec 32 := Scalar.muli v58 c1_i32_218
  let v238 : BitVec 32 := Scalar.addi c0_i32_219 v237
  v238.toNat
def k0_dev16 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_39 : BitVec 32 := 8#32
  let v59 : BitVec 32 := Scalar.xori v2 c8_i32_39
  let c1_i32_226 : BitVec 32 := 1#32
  let v245 : BitVec 32 := Scalar.muli v59 c1_i32_226
  let v246 : BitVec 32 := Scalar.addi c0_i32_227 v245
  v246.toNat
def k0_dev17 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_40 : BitVec 32 := 8#32
  let v60 : BitVec 32 := Scalar.xori v2 c8_i32_40
  let c1_i32_236 : BitVec 32 := 1#32
  let v253 : BitVec 32 := Scalar.muli v60 c1_i32_236
  let v254 : BitVec 32 := Scalar.addi c0_i32_237 v253
  v254.toNat
def k0_dev18 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_244 : BitVec 32 := 2#32
  let v261 : BitVec 32 := Scalar.xori v2 c2_i32_244
  let c1_i32_260 : BitVec 32 := 1#32
  let v283 : BitVec 32 := Scalar.muli v261 c1_i32_260
  let v284 : BitVec 32 := Scalar.addi c0_i32_261 v283
  v284.toNat
def k0_dev19 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v293 : BitVec 32 := Scalar.xori v2 c18_i32
  let c1_i32_281 : BitVec 32 := 1#32
  let v315 : BitVec 32 := Scalar.muli v293 c1_i32_281
  let v316 : BitVec 32 := Scalar.addi c0_i32_282 v315
  v316.toNat
def k0_dev20 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_287 : BitVec 32 := 6#32
  let v325 : BitVec 32 := Scalar.xori v2 c6_i32_287
  let c1_i32_303 : BitVec 32 := 1#32
  let v347 : BitVec 32 := Scalar.muli v325 c1_i32_303
  let v348 : BitVec 32 := Scalar.addi c0_i32_304 v347
  v348.toNat
def k0_dev21 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v357 : BitVec 32 := Scalar.xori v2 c22_i32
  let c1_i32_324 : BitVec 32 := 1#32
  let v379 : BitVec 32 := Scalar.muli v357 c1_i32_324
  let v380 : BitVec 32 := Scalar.addi c0_i32_325 v379
  v380.toNat
def k0_dev22 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_41 : BitVec 32 := 8#32
  let v61 : BitVec 32 := Scalar.xori v2 c8_i32_41
  let c1_i32_351 : BitVec 32 := 1#32
  let v401 : BitVec 32 := Scalar.muli v61 c1_i32_351
  let v402 : BitVec 32 := Scalar.addi c0_i32_352 v401
  v402.toNat
def k0_dev23 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_42 : BitVec 32 := 8#32
  let v62 : BitVec 32 := Scalar.xori v2 c8_i32_42
  let c1_i32_359 : BitVec 32 := 1#32
  let v409 : BitVec 32 := Scalar.muli v62 c1_i32_359
  let v410 : BitVec 32 := Scalar.addi c0_i32_360 v409
  v410.toNat
def k0_dev24 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_366 : BitVec 32 := 1#32
  let v417 : BitVec 32 := Scalar.xori v2 c1_i32_366
  let c1_i32_382 : BitVec 32 := 1#32
  let v439 : BitVec 32 := Scalar.muli v417 c1_i32_382
  let v440 : BitVec 32 := Scalar.addi c0_i32_383 v439
  v440.toNat
def k0_dev25 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v449 : BitVec 32 := Scalar.xori v2 c17_i32
  let c1_i32_403 : BitVec 32 := 1#32
  let v471 : BitVec 32 := Scalar.muli v449 c1_i32_403
  let v472 : BitVec 32 := Scalar.addi c0_i32_404 v471
  v472.toNat
def k0_dev26 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_409 : BitVec 32 := 5#32
  let v481 : BitVec 32 := Scalar.xori v2 c5_i32_409
  let c1_i32_425 : BitVec 32 := 1#32
  let v503 : BitVec 32 := Scalar.muli v481 c1_i32_425
  let v504 : BitVec 32 := Scalar.addi c0_i32_426 v503
  v504.toNat
def k0_dev27 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v513 : BitVec 32 := Scalar.xori v2 c21_i32
  let c1_i32_445 : BitVec 32 := 1#32
  let v535 : BitVec 32 := Scalar.muli v513 c1_i32_445
  let v536 : BitVec 32 := Scalar.addi c0_i32_446 v535
  v536.toNat
def k0_dev28 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_451 : BitVec 32 := 3#32
  let v545 : BitVec 32 := Scalar.xori v2 c3_i32_451
  let c1_i32_467 : BitVec 32 := 1#32
  let v567 : BitVec 32 := Scalar.muli v545 c1_i32_467
  let v568 : BitVec 32 := Scalar.addi c0_i32_468 v567
  v568.toNat
def k0_dev29 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v577 : BitVec 32 := Scalar.xori v2 c19_i32
  let c1_i32_487 : BitVec 32 := 1#32
  let v599 : BitVec 32 := Scalar.muli v577 c1_i32_487
  let v600 : BitVec 32 := Scalar.addi c0_i32_488 v599
  v600.toNat
def k0_dev30 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_493 : BitVec 32 := 7#32
  let v609 : BitVec 32 := Scalar.xori v2 c7_i32_493
  let c1_i32_508 : BitVec 32 := 1#32
  let v631 : BitVec 32 := Scalar.muli v609 c1_i32_508
  let v632 : BitVec 32 := Scalar.addi c0_i32_509 v631
  v632.toNat
def k0_dev31 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v641 : BitVec 32 := Scalar.xori v2 c23_i32
  let c1_i32_528 : BitVec 32 := 1#32
  let v663 : BitVec 32 := Scalar.muli v641 c1_i32_528
  let v664 : BitVec 32 := Scalar.addi c0_i32_529 v663
  v664.toNat
def k0_dev32 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_544 : BitVec 32 := 8#32
  let v679 : BitVec 32 := Scalar.xori v2 c8_i32_544
  let c1_i32_560 : BitVec 32 := 1#32
  let v701 : BitVec 32 := Scalar.muli v679 c1_i32_560
  let v702 : BitVec 32 := Scalar.addi c0_i32_561 v701
  v702.toNat
def k0_dev33 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_566 : BitVec 32 := 24#32
  let v711 : BitVec 32 := Scalar.xori v2 c24_i32_566
  let c1_i32_582 : BitVec 32 := 1#32
  let v733 : BitVec 32 := Scalar.muli v711 c1_i32_582
  let v734 : BitVec 32 := Scalar.addi c0_i32_583 v733
  v734.toNat
def k0_dev34 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_588 : BitVec 32 := 12#32
  let v743 : BitVec 32 := Scalar.xori v2 c12_i32_588
  let c1_i32_604 : BitVec 32 := 1#32
  let v765 : BitVec 32 := Scalar.muli v743 c1_i32_604
  let v766 : BitVec 32 := Scalar.addi c0_i32_605 v765
  v766.toNat
def k0_dev35 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_610 : BitVec 32 := 28#32
  let v775 : BitVec 32 := Scalar.xori v2 c28_i32_610
  let c1_i32_626 : BitVec 32 := 1#32
  let v797 : BitVec 32 := Scalar.muli v775 c1_i32_626
  let v798 : BitVec 32 := Scalar.addi c0_i32_627 v797
  v798.toNat
def k0_dev36 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_642 : BitVec 32 := 10#32
  let v813 : BitVec 32 := Scalar.xori v2 c10_i32_642
  let c1_i32_658 : BitVec 32 := 1#32
  let v835 : BitVec 32 := Scalar.muli v813 c1_i32_658
  let v836 : BitVec 32 := Scalar.addi c0_i32_659 v835
  v836.toNat
def k0_dev37 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v845 : BitVec 32 := Scalar.xori v2 c26_i32
  let c1_i32_679 : BitVec 32 := 1#32
  let v867 : BitVec 32 := Scalar.muli v845 c1_i32_679
  let v868 : BitVec 32 := Scalar.addi c0_i32_680 v867
  v868.toNat
def k0_dev38 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_685 : BitVec 32 := 14#32
  let v877 : BitVec 32 := Scalar.xori v2 c14_i32_685
  let c1_i32_701 : BitVec 32 := 1#32
  let v899 : BitVec 32 := Scalar.muli v877 c1_i32_701
  let v900 : BitVec 32 := Scalar.addi c0_i32_702 v899
  v900.toNat
def k0_dev39 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v909 : BitVec 32 := Scalar.xori v2 c30_i32
  let c1_i32_722 : BitVec 32 := 1#32
  let v931 : BitVec 32 := Scalar.muli v909 c1_i32_722
  let v932 : BitVec 32 := Scalar.addi c0_i32_723 v931
  v932.toNat
def k0_dev40 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_738 : BitVec 32 := 9#32
  let v947 : BitVec 32 := Scalar.xori v2 c9_i32_738
  let c1_i32_754 : BitVec 32 := 1#32
  let v969 : BitVec 32 := Scalar.muli v947 c1_i32_754
  let v970 : BitVec 32 := Scalar.addi c0_i32_755 v969
  v970.toNat
def k0_dev41 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v979 : BitVec 32 := Scalar.xori v2 c25_i32
  let c1_i32_775 : BitVec 32 := 1#32
  let v1001 : BitVec 32 := Scalar.muli v979 c1_i32_775
  let v1002 : BitVec 32 := Scalar.addi c0_i32_776 v1001
  v1002.toNat
def k0_dev42 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_781 : BitVec 32 := 13#32
  let v1011 : BitVec 32 := Scalar.xori v2 c13_i32_781
  let c1_i32_797 : BitVec 32 := 1#32
  let v1033 : BitVec 32 := Scalar.muli v1011 c1_i32_797
  let v1034 : BitVec 32 := Scalar.addi c0_i32_798 v1033
  v1034.toNat
def k0_dev43 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v1043 : BitVec 32 := Scalar.xori v2 c29_i32
  let c1_i32_817 : BitVec 32 := 1#32
  let v1065 : BitVec 32 := Scalar.muli v1043 c1_i32_817
  let v1066 : BitVec 32 := Scalar.addi c0_i32_818 v1065
  v1066.toNat
def k0_dev44 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_833 : BitVec 32 := 11#32
  let v1081 : BitVec 32 := Scalar.xori v2 c11_i32_833
  let c1_i32_849 : BitVec 32 := 1#32
  let v1103 : BitVec 32 := Scalar.muli v1081 c1_i32_849
  let v1104 : BitVec 32 := Scalar.addi c0_i32_850 v1103
  v1104.toNat
def k0_dev45 (d0 : Dev nD) : Nat :=
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_855 : BitVec 32 := 27#32
  let v1113 : BitVec 32 := Scalar.xori v2 c27_i32_855
  let c1_i32_871 : BitVec 32 := 1#32
  let v1135 : BitVec 32 := Scalar.muli v1113 c1_i32_871
  let v1136 : BitVec 32 := Scalar.addi c0_i32_872 v1135
  v1136.toNat
def k0_dev46 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_877 : BitVec 32 := 15#32
  let v1145 : BitVec 32 := Scalar.xori v2 c15_i32_877
  let c1_i32_893 : BitVec 32 := 1#32
  let v1167 : BitVec 32 := Scalar.muli v1145 c1_i32_893
  let v1168 : BitVec 32 := Scalar.addi c0_i32_894 v1167
  v1168.toNat
def k0_dev47 (d0 : Dev nD) : Nat :=
  let c0_i32_915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v1177 : BitVec 32 := Scalar.xori v2 c31_i32
  let c1_i32_914 : BitVec 32 := 1#32
  let v1199 : BitVec 32 := Scalar.muli v1177 c1_i32_914
  let v1200 : BitVec 32 := Scalar.addi c0_i32_915 v1199
  v1200.toNat
def k0_off2 (d0 : Dev nD) (c1_i32_930 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1217 : BitVec 32 := Scalar.xori v2 c1_i32_930
  let c128_i32_931 : BitVec 32 := 128#32
  let v1218 : BitVec 32 := Scalar.muli v1217 c128_i32_931
  let v1223 : Index := Scalar.indexCast v1218
  let c0_935 : Index := 0#32
  ![v1223.toNat, 0]
def k0_off3 (d0 : Dev nD) (c1_i32_930 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1217 : BitVec 32 := Scalar.xori v2 c1_i32_930
  let c128_i32_931 : BitVec 32 := 128#32
  let v1218 : BitVec 32 := Scalar.muli v1217 c128_i32_931
  let c64_i32 : BitVec 32 := 64#32
  let v1227 : BitVec 32 := Scalar.addi v1218 c64_i32
  let v1228 : Index := Scalar.indexCast v1227
  let c0_936 : Index := 0#32
  ![v1228.toNat, 0]
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Struct.lean ====
module

public import proofs.«01_k».proof.Proof.Gen.KernelIdeal.Skeleton
public import proofs.«01_k».proof.Proof.Gen.KernelIdeal.Points

@[expose] public section

/-! The kernel's body, written over its repeated pieces: the copy of one gather flight, the
matmul-and-send of one block, the arrival of one result tile. Every piece takes its number (a
flight, a slot, a label) as an argument; `body_eq` says the printed body is their composition. -/

noncomputable section

namespace Cert.KernelIdeal.K

open Idealize.ShloMosaic Idealize.SL.Sem Cert.KernelIdeal Cert.KernelIdeal.Gen

variable {F : FTy → Type} [FloatOps F]

/-! ## The schedule's tables -/

/-- The mask of exchange round `r`: the partner of device `c` in it is `c xor mask`. -/
def rmask (r : Fin 5) : Fin 32 := (![16, 4, 2, 1, 8] : Fin 5 → Fin 32) r

/-- The label of gather slot `s`: slot `s` holds the weights of device `c xor xv s`. -/
def xv (s : Fin 32) : Fin 32 := (![0, 16, 4, 20, 2, 18, 6, 22, 1, 17, 5, 21, 3, 19, 7, 23, 8, 24, 12, 28, 10, 26, 14, 30, 9, 25, 13, 29, 11, 27, 15, 31] : Fin 32 → Fin 32) s

/-- The slot of a label: the inverse of `xv`. -/
def sv (l : Fin 32) : Fin 32 := (![0, 8, 4, 12, 2, 10, 6, 14, 16, 24, 20, 28, 18, 26, 22, 30, 1, 9, 5, 13, 3, 11, 7, 15, 17, 25, 21, 29, 19, 27, 23, 31] : Fin 32 → Fin 32) l

/-- The first slot a gather flight reads. -/
def fsrc (i : Fin 11) : ℕ := (![0, 0, 1, 0, 2, 0, 4, 0, 4, 8, 12] : Fin 11 → ℕ) i

/-- How many slots a gather flight moves. -/
def fsz (i : Fin 11) : ℕ := (![1, 1, 1, 2, 2, 4, 4, 4, 4, 4, 4] : Fin 11 → ℕ) i

/-- The first slot a gather flight writes. -/
def fdst (i : Fin 11) : ℕ := (![1, 2, 3, 4, 6, 8, 12, 16, 20, 24, 28] : Fin 11 → ℕ) i

/-- The exchange round of a gather flight. -/
def frd (i : Fin 11) : Fin 5 := (![0, 1, 1, 2, 2, 3, 3, 4, 4, 4, 4] : Fin 11 → Fin 5) i

/-- The shape a gather flight moves. -/
abbrev fsh (i : Fin 11) : Shape := ⟨3, ![fsz i, 2048, 128]⟩

/-- The device of the barrier signal of round `r`, as the program computes it. -/
def barDev (r : Fin 5) (d0 : Dev nD) : Dev nD :=
  (![⟨k0_dev1 d0, k0_dev1_lt d0⟩, ⟨k0_dev2 d0, k0_dev2_lt d0⟩, ⟨k0_dev3 d0, k0_dev3_lt d0⟩, ⟨k0_dev4 d0, k0_dev4_lt d0⟩, ⟨k0_dev5 d0, k0_dev5_lt d0⟩] : Fin 5 → Dev nD) r

/-- The device a gather flight goes to, as the program computes it. -/
def rdDev (i : Fin 11) (d0 : Dev nD) : Dev nD :=
  (![⟨k0_dev6 d0, k0_dev6_lt d0⟩, ⟨k0_dev7 d0, k0_dev7_lt d0⟩, ⟨k0_dev8 d0, k0_dev8_lt d0⟩, ⟨k0_dev9 d0, k0_dev9_lt d0⟩, ⟨k0_dev11 d0, k0_dev11_lt d0⟩, ⟨k0_dev12 d0, k0_dev12_lt d0⟩, ⟨k0_dev15 d0, k0_dev15_lt d0⟩, ⟨k0_dev16 d0, k0_dev16_lt d0⟩, ⟨k0_dev17 d0, k0_dev17_lt d0⟩, ⟨k0_dev22 d0, k0_dev22_lt d0⟩, ⟨k0_dev23 d0, k0_dev23_lt d0⟩] : Fin 11 → Dev nD) i

/-- The device the result tile of slot `s` goes to, as the program computes it (slot 0's stays). -/
def blkDev (s : Fin 32) (d0 : Dev nD) : Dev nD :=
  (![d0, ⟨k0_dev10 d0, k0_dev10_lt d0⟩, ⟨k0_dev13 d0, k0_dev13_lt d0⟩, ⟨k0_dev14 d0, k0_dev14_lt d0⟩, ⟨k0_dev18 d0, k0_dev18_lt d0⟩, ⟨k0_dev19 d0, k0_dev19_lt d0⟩, ⟨k0_dev20 d0, k0_dev20_lt d0⟩, ⟨k0_dev21 d0, k0_dev21_lt d0⟩, ⟨k0_dev24 d0, k0_dev24_lt d0⟩, ⟨k0_dev25 d0, k0_dev25_lt d0⟩, ⟨k0_dev26 d0, k0_dev26_lt d0⟩, ⟨k0_dev27 d0, k0_dev27_lt d0⟩, ⟨k0_dev28 d0, k0_dev28_lt d0⟩, ⟨k0_dev29 d0, k0_dev29_lt d0⟩, ⟨k0_dev30 d0, k0_dev30_lt d0⟩, ⟨k0_dev31 d0, k0_dev31_lt d0⟩, ⟨k0_dev32 d0, k0_dev32_lt d0⟩, ⟨k0_dev33 d0, k0_dev33_lt d0⟩, ⟨k0_dev34 d0, k0_dev34_lt d0⟩, ⟨k0_dev35 d0, k0_dev35_lt d0⟩, ⟨k0_dev36 d0, k0_dev36_lt d0⟩, ⟨k0_dev37 d0, k0_dev37_lt d0⟩, ⟨k0_dev38 d0, k0_dev38_lt d0⟩, ⟨k0_dev39 d0, k0_dev39_lt d0⟩, ⟨k0_dev40 d0, k0_dev40_lt d0⟩, ⟨k0_dev41 d0, k0_dev41_lt d0⟩, ⟨k0_dev42 d0, k0_dev42_lt d0⟩, ⟨k0_dev43 d0, k0_dev43_lt d0⟩, ⟨k0_dev44 d0, k0_dev44_lt d0⟩, ⟨k0_dev45 d0, k0_dev45_lt d0⟩, ⟨k0_dev46 d0, k0_dev46_lt d0⟩, ⟨k0_dev47 d0, k0_dev47_lt d0⟩] : Fin 32 → Dev nD) s

/-! ## The views -/

/-- The slots that a flight reads lie in the gather buffer. -/
theorem src_inb : ∀ i : Fin 11, ∀ a, (![fsrc i, 0, 0] : Fin 3 → Nat) a + (fsh i).size a ≤ S32x2048x128.size a := by decide
/-- So do the slots that it writes. -/
theorem dst_inb : ∀ i : Fin 11, ∀ a, (![fdst i, 0, 0] : Fin 3 → Nat) a + (fsh i).size a ≤ S32x2048x128.size a := by decide
/-- A flight reads whole words. -/
theorem src_words : ∀ i : Fin 11, (Rect.unit (s := S32x2048x128) ![fsrc i, 0, 0] (fsh i).size (src_inb i)).WholeWords (EltTy.packing .fp8e4m3) := by decide
/-- A flight writes whole words. -/
theorem dst_words : ∀ i : Fin 11, (Rect.unit (s := S32x2048x128) ![fdst i, 0, 0] (fsh i).size (dst_inb i)).WholeWords (EltTy.packing .fp8e4m3) := by decide
/-- A slot lies in the gather buffer. -/
theorem slot_inb : ∀ s : Fin 32, ∀ a, (![s.val, 0, 0] : Fin 3 → Nat) a + S1x2048x128.size a ≤ S32x2048x128.size a := by decide
/-- A tile lies in its buffer. -/
theorem tile_inb : ∀ s : Fin 32, ∀ a, (![s.val, 0, 0] : Fin 3 → Nat) a + S1x64x128.size a ≤ S32x64x128.size a := by decide
/-- A tile is made of whole words. -/
theorem tile_words : ∀ s : Fin 32, (Rect.unit (s := S32x64x128) ![s.val, 0, 0] S1x64x128.size (tile_inb s)).WholeWords (EltTy.packing .bf16) := by decide
/-- The left half of a tile lies in the buffer. -/
theorem half0_inb : ∀ s : Fin 32, ∀ a, (![s.val, 0, 0] : Fin 3 → Nat) a + S1x64x64.size a ≤ S32x64x128.size a := by decide
/-- So does the right half. -/
theorem half1_inb : ∀ s : Fin 32, ∀ a, (![s.val, 0, 64] : Fin 3 → Nat) a + S1x64x64.size a ≤ S32x64x128.size a := by decide
/-- The left half is made of packed rows. -/
theorem half0_packed : ∀ s : Fin 32, (Rect.unit (s := S32x64x128) ![s.val, 0, 0] S1x64x64.size (half0_inb s)).PackedRows (EltTy.packing .bf16) := by decide
/-- So is the right half. -/
theorem half1_packed : ∀ s : Fin 32, (Rect.unit (s := S32x64x128) ![s.val, 0, 64] S1x64x64.size (half1_inb s)).PackedRows (EltTy.packing .bf16) := by decide
/-- A flight's semaphore lies in its array. -/
theorem sem11_inb : ∀ i : Fin 11, ∀ a, (![i.val] : Fin 1 → Nat) a + S1.size a ≤ S11.size a := by decide
/-- A tile's semaphore lies in its array. -/
theorem sem32_inb : ∀ i : Fin 32, ∀ a, (![i.val] : Fin 1 → Nat) a + S1.size a ≤ S32.size a := by decide
/-- The upper rows of a received tile lie in the result. -/
theorem off2_inb : ∀ (d0 : Dev nD) (l : Fin 32), ∀ a, (k0_off2 d0 (BitVec.ofNat 32 l.val)) a + S64x64.size a ≤ S4096x64.size a := by decide +kernel
/-- So do the lower rows. -/
theorem off3_inb : ∀ (d0 : Dev nD) (l : Fin 32), ∀ a, (k0_off3 d0 (BitVec.ofNat 32 l.val)) a + S64x64.size a ≤ S4096x64.size a := by decide +kernel

/-- The staged activations. -/
abbrev xM : Memref sig .tc .vmem S128x4096 .fp8e4m3 := Memref.whole cc0_stg0_0
/-- The staged weights. -/
abbrev wM : Memref sig .tc .vmem S4096x64 .fp8e4m3 := Memref.whole cc0_stg1_0
/-- The staged scale of x. -/
abbrev sxM : Memref sig .tc .smem S1 .f32 := Memref.whole cc0_stg2_0
/-- The staged scale of w. -/
abbrev swM : Memref sig .tc .smem S1 .f32 := Memref.whole cc0_stg3_0
/-- The staged result. -/
abbrev outM : Memref sig .tc .vmem S4096x64 .f32 := Memref.whole cc0_stg4_0
/-- The gather buffer. -/
abbrev gM : Memref sig .tc .vmem S32x2048x128 .fp8e4m3 := Memref.whole cc0_scratch0
/-- The packed tiles to send. -/
abbrev pM : Memref sig .tc .vmem S32x64x128 .bf16 := Memref.whole cc0_scratch1
/-- The received tiles. -/
abbrev rM : Memref sig .tc .vmem S32x64x128 .bf16 := Memref.whole cc0_scratch2

/-- The part of the gather buffer a flight reads. -/
abbrev srcM (i : Fin 11) : Memref sig .tc .vmem (fsh i) .fp8e4m3 :=
  gM.slice (Rect.unit (s := S32x2048x128) ![fsrc i, 0, 0] (fsh i).size (src_inb i)) (fun _ => rfl)

/-- The part of the gather buffer a flight writes. -/
abbrev dstM (i : Fin 11) : Memref sig .tc .vmem (fsh i) .fp8e4m3 :=
  gM.slice (Rect.unit (s := S32x2048x128) ![fdst i, 0, 0] (fsh i).size (dst_inb i)) (fun _ => rfl)

/-- Tile `s` of the buffer the results are packed in. -/
abbrev packM (s : Fin 32) : Memref sig .tc .vmem S64x128 .bf16 :=
  (pM.slice (Rect.unit (s := S32x64x128) ![s.val, 0, 0] S1x64x128.size (tile_inb s)) (fun _ => rfl)).squeeze S64x128 squeezes_S1x64x128_S64x128

/-- Tile `l` of the buffer the results arrive in. -/
abbrev stageM (l : Fin 32) : Memref sig .tc .vmem S64x128 .bf16 :=
  (rM.slice (Rect.unit (s := S32x64x128) ![l.val, 0, 0] S1x64x128.size (tile_inb l)) (fun _ => rfl)).squeeze S64x128 squeezes_S1x64x128_S64x128

/-- A flight's source is copied exactly. -/
theorem src_exact (i : Fin 11) : (srcM i).view.WordExact := (Memref.isWhole_whole cc0_scratch0).wordExact_slice rfl _ (src_words i)
/-- So is its destination. -/
theorem dst_exact (i : Fin 11) : (dstM i).view.WordExact := (Memref.isWhole_whole cc0_scratch0).wordExact_slice rfl _ (dst_words i)
/-- A packed tile is copied exactly. -/
theorem pack_exact (s : Fin 32) : (packM s).view.WordExact := ((Memref.isWhole_whole cc0_scratch1).wordExact_slice rfl _ (tile_words s)).reshape _ _
/-- So is a received tile. -/
theorem stage_exact (l : Fin 32) : (stageM l).view.WordExact := ((Memref.isWhole_whole cc0_scratch2).wordExact_slice rfl _ (tile_words l)).reshape _ _

/-- A flight's send semaphore. -/
abbrev rdSend (i : Fin 11) : DmaSem sig :=
  ((cc0_scratch3.slice (Rect.unit (s := S11) ![i.val] S1.size (sem11_inb i))).squeeze S_ squeezes_S1_S_).sem
/-- A flight's receive semaphore. -/
abbrev rdRecv (i : Fin 11) : DmaSem sig :=
  ((cc0_scratch4.slice (Rect.unit (s := S11) ![i.val] S1.size (sem11_inb i))).squeeze S_ squeezes_S1_S_).sem
/-- A result tile's send semaphore. -/
abbrev resSend (l : Fin 32) : DmaSem sig :=
  ((cc0_scratch5.slice (Rect.unit (s := S32) ![l.val] S1.size (sem32_inb l))).squeeze S_ squeezes_S1_S_).sem
/-- A result tile's receive semaphore. -/
abbrev resRecv (l : Fin 32) : DmaSem sig :=
  ((cc0_scratch6.slice (Rect.unit (s := S32) ![l.val] S1.size (sem32_inb l))).squeeze S_ squeezes_S1_S_).sem

/-! ## The pieces -/

/-- The barrier's signal of round `r`. -/
def sigBar (d0 : Dev nD) (r : Fin 5) : Prog (TpuEff nD τ sig (Elt F) Λ₀ .tc) PUnit :=
  semSignalWord (barDev r d0) barrier0 1#32

/-- Start gather flight `i`. -/
def startRd (d0 : Dev nD) (i : Fin 11) : Prog (TpuEff nD τ sig (Elt F) Λ₀ .tc) PUnit :=
  Prog.lift (.enqueueDma (srcM i) (.remote (Dev.tc (rdDev i d0)) (dstM i) (.dma (rdSend i))) (.dma (rdRecv i))
    (src_exact i) (dst_exact i) ⟨⟨rfl, Or.inl rfl⟩, trivial⟩)

/-- Wait for the arrival of gather flight `i`. -/
def waitRd (i : Fin 11) : Prog (TpuEff nD τ sig (Elt F) Λ₀ .tc) PUnit :=
  Prog.lift (.waitDma2 (rdRecv i) (srcM i) (dstM i) (src_exact i) (dst_exact i))

/-- The block product of one slot: `relu ((xe * w_lo + xo * w_hi) * scale)`. -/
def mm (v21 : F .f32) (v24 : FVec F S128x4096 .bf16) (g : Vec F S1x2048x128 .fp8e4m3) : FVec F S128x64 .f32 :=
  k0_pay7 v21 v24 g

/-- The block product rounded for sending. -/
def mm16 (v21 : F .f32) (v24 : FVec F S128x4096 .bf16) (g : Vec F S1x2048x128 .fp8e4m3) : FVec F S128x64 .bf16 :=
  truncf .bf16 (mm v21 v24 g) bitsLt_bf16_f32

/-- The upper rows of the block, as the left half of a tile. -/
def half0 (v : FVec F S128x64 .bf16) : FVec F S1x64x64 .bf16 :=
  shapeCast S1x64x64 (extractStridedSlice S64x64 ![0, 0] v slices_S128x64_o0_0_S64x64) shapeCasts_S64x64_S1x64x64
/-- The lower rows of the block, as the right half of a tile. -/
def half1 (v : FVec F S128x64 .bf16) : FVec F S1x64x64 .bf16 :=
  shapeCast S1x64x64 (extractStridedSlice S64x64 ![64, 0] v slices_S128x64_o64_0_S64x64) shapeCasts_S64x64_S1x64x64

/-- Compute the block of slot `s`, pack it and send it to its device. -/
def doBlock (d0 : Dev nD) (v21 : F .f32) (v24 : FVec F S128x4096 .bf16) (s : Fin 32) :
    Prog (TpuEff nD τ sig (Elt F) Λ₀ .tc) PUnit := do
  let g : Vec F S1x2048x128 .fp8e4m3 ← Prog.lift (.load gM (Rect.unit (s := S32x2048x128) ![s.val, 0, 0] S1x2048x128.size (slot_inb s)).toLoadRect (View.loadsAt_vmem h_S1x2048x128))
  let _ : Vec F S1x64x64 .bf16 ← Prog.lift (.load pM (Rect.unit (s := S32x64x128) ![s.val, 0, 0] S1x64x64.size (half0_inb s)).toLoadRect (View.loadsAt_vmem h_S1x64x64))
  Prog.lift (.store pM (Rect.unit (s := S32x64x128) ![s.val, 0, 0] S1x64x64.size (half0_inb s)) (half0 (mm16 v21 v24 g)) Finset.univ (View.stores_vmem h_S1x64x64 ((Memref.isWhole_whole cc0_scratch1).storeExact_slice rfl _ (half0_packed s)) (fun _ => rfl)) (.inl rfl))
  let _ : Vec F S1x64x64 .bf16 ← Prog.lift (.load pM (Rect.unit (s := S32x64x128) ![s.val, 0, 64] S1x64x64.size (half1_inb s)).toLoadRect (View.loadsAt_vmem h_S1x64x64))
  Prog.lift (.store pM (Rect.unit (s := S32x64x128) ![s.val, 0, 64] S1x64x64.size (half1_inb s)) (half1 (mm16 v21 v24 g)) Finset.univ (View.stores_vmem h_S1x64x64 ((Memref.isWhole_whole cc0_scratch1).storeExact_slice rfl _ (half1_packed s)) (fun _ => rfl)) (.inl rfl))
  Prog.lift (.enqueueDma (packM s) (.remote (Dev.tc (blkDev s d0)) (stageM (xv s)) (.dma (resSend (xv s)))) (.dma (resRecv (xv s)))
    (pack_exact s) (stage_exact (xv s)) ⟨⟨rfl, Or.inl rfl⟩, trivial⟩)

/-- The upper rows of a block, from the tile that carries it. -/
def out0 (v : Vec F S1x64x128 .bf16) : FVec F S64x64 .f32 :=
  extf .f32 (extractStridedSlice S64x64 ![0, 0] (shapeCast S64x128 v shapeCasts_S1x64x128_S64x128) slices_S64x128_o0_0_S64x64) bitsLt_bf16_f32
/-- The lower rows of a block, from the tile that carries it. -/
def out1 (v : Vec F S1x64x128 .bf16) : FVec F S64x64 .f32 :=
  extf .f32 (extractStridedSlice S64x64 ![0, 64] (shapeCast S64x128 v shapeCasts_S1x64x128_S64x128) slices_S64x128_o0_64_S64x64) bitsLt_bf16_f32

/-- Wait for the result tile of label `l` and write its rows out. -/
def drain (d0 : Dev nD) (l : Fin 32) : Prog (TpuEff nD τ sig (Elt F) Λ₀ .tc) PUnit := do
  Prog.lift (.waitDma2 (resRecv l) (packM (sv l)) (stageM l) (pack_exact (sv l)) (stage_exact l))
  let v : Vec F S1x64x128 .bf16 ← Prog.lift (.load rM (Rect.unit (s := S32x64x128) ![l.val, 0, 0] S1x64x128.size (tile_inb l)).toLoadRect (View.loadsAt_vmem h_S1x64x128))
  let _ : Vec F S64x64 .f32 ← Prog.lift (.load outM (Rect.unit (s := S4096x64) (k0_off2 d0 (BitVec.ofNat 32 l.val)) S64x64.size (off2_inb d0 l)).toLoadRect (View.loadsAt_vmem h_S64x64))
  Prog.lift (.store outM (Rect.unit (s := S4096x64) (k0_off2 d0 (BitVec.ofNat 32 l.val)) S64x64.size (off2_inb d0 l)) (out0 v) Finset.univ (View.stores_vmem_bits_univ h_S64x64 rfl) (.inl rfl))
  let _ : Vec F S64x64 .f32 ← Prog.lift (.load outM (Rect.unit (s := S4096x64) (k0_off3 d0 (BitVec.ofNat 32 l.val)) S64x64.size (off3_inb d0 l)).toLoadRect (View.loadsAt_vmem h_S64x64))
  Prog.lift (.store outM (Rect.unit (s := S4096x64) (k0_off3 d0 (BitVec.ofNat 32 l.val)) S64x64.size (off3_inb d0 l)) (out1 v) Finset.univ (View.stores_vmem_bits_univ h_S64x64 rfl) (.inl rfl))

/-- Wait for gather flight `i` to have left. -/
def leftRd (i : Fin 11) : Prog (TpuEff nD τ sig (Elt F) Λ₀ .tc) PUnit :=
  Prog.lift (.waitDma2 (rdSend i) (dstM i) (srcM i) (dst_exact i) (src_exact i))

/-- Wait for the result tile of label `l` to have left. -/
def leftRes (l : Fin 32) : Prog (TpuEff nD τ sig (Elt F) Λ₀ .tc) PUnit :=
  Prog.lift (.waitDma2 (resSend l) (stageM l) (packM (sv l)) (stage_exact l) (pack_exact (sv l)))

/-- Run a piece for every number of a list, in order. -/
def each {α : Type} (f : α → Prog (TpuEff nD τ sig (Elt F) Λ₀ .tc) PUnit) : List α → Prog (TpuEff nD τ sig (Elt F) Λ₀ .tc) PUnit
  | [] => pure ⟨⟩
  | a :: l => do f a; each f l

/-- The barrier, and the loads of the operands: the scale and the activations. -/
def opening (d0 : Dev nD) : Prog (TpuEff nD τ sig (Elt F) Λ₀ .tc) (F .f32 × FVec F S128x4096 .bf16) := do
  each (sigBar d0) [0, 1, 2, 3, 4]
  semWaitWord barrier0 5#32
  let v19 : Elt F .f32 ← smemLoad sxM (Rect.unit (s := S1) ![0] S1.size inb_S1_S1_0) numel1_S1 rfl
  let v20 : Elt F .f32 ← smemLoad swM (Rect.unit (s := S1) ![0] S1.size inb_S1_S1_0) numel1_S1 rfl
  let v22 : Vec F S128x4096 .fp8e4m3 ← Prog.lift (.load xM (Rect.unit (s := S128x4096) ![0, 0] S128x4096.size inb_S128x4096_S128x4096_0_0).toLoadRect (View.loadsAt_vmem h_S128x4096))
  pure (k0_pay1 v19 v20, k0_pay2 v22)

/-- Pack the device's own weights into slot 0 and write its own block of the result. -/
def own (d0 : Dev nD) (v21 : F .f32) (v24 : FVec F S128x4096 .bf16) : Prog (TpuEff nD τ sig (Elt F) Λ₀ .tc) PUnit := do
  let v28 : Vec F S2048x64 .fp8e4m3 ← Prog.lift (.load wM (Rect.unit (s := S4096x64) ![0, 0] S2048x64.size inb_S4096x64_S2048x64_0_0).toLoadRect (View.loadsAt_vmem h_S2048x64))
  let _ : Vec F S1x2048x64 .fp8e4m3 ← Prog.lift (.load gM (Rect.unit (s := S32x2048x128) ![0, 0, 0] S1x2048x64.size inb_S32x2048x128_S1x2048x64_0_0_0).toLoadRect (View.loadsAt_vmem h_S1x2048x64))
  Prog.lift (.store gM (Rect.unit (s := S32x2048x128) ![0, 0, 0] S1x2048x64.size inb_S32x2048x128_S1x2048x64_0_0_0) (k0_pay5 v28) Finset.univ (View.stores_vmem h_S1x2048x64 ((Memref.isWhole_whole cc0_scratch0).storeExact_slice rfl _ packedfp8e4m3_S32x2048x128_S1x2048x64_0_0_0) (fun _ => rfl)) (.inl rfl))
  let v33 : Vec F S2048x64 .fp8e4m3 ← Prog.lift (.load wM (Rect.unit (s := S4096x64) ![2048, 0] S2048x64.size inb_S4096x64_S2048x64_2048_0).toLoadRect (View.loadsAt_vmem h_S2048x64))
  let _ : Vec F S1x2048x64 .fp8e4m3 ← Prog.lift (.load gM (Rect.unit (s := S32x2048x128) ![0, 0, 64] S1x2048x64.size inb_S32x2048x128_S1x2048x64_0_0_64).toLoadRect (View.loadsAt_vmem h_S1x2048x64))
  Prog.lift (.store gM (Rect.unit (s := S32x2048x128) ![0, 0, 64] S1x2048x64.size inb_S32x2048x128_S1x2048x64_0_0_64) (k0_pay6 v33) Finset.univ (View.stores_vmem h_S1x2048x64 ((Memref.isWhole_whole cc0_scratch0).storeExact_slice rfl _ packedfp8e4m3_S32x2048x128_S1x2048x64_0_0_64) (fun _ => rfl)) (.inl rfl))
  let v38 : Vec F S1x2048x128 .fp8e4m3 ← Prog.lift (.load gM (Rect.unit (s := S32x2048x128) ![0, 0, 0] S1x2048x128.size inb_S32x2048x128_S1x2048x128_0_0_0).toLoadRect (View.loadsAt_vmem h_S1x2048x128))
  let _ : Vec F S128x64 .f32 ← Prog.lift (.load outM (Rect.unit (s := S4096x64) (k0_off1 d0) S128x64.size (k0_off1_inb d0)).toLoadRect (View.loadsAt_vmem h_S128x64))
  Prog.lift (.store outM (Rect.unit (s := S4096x64) (k0_off1 d0) S128x64.size (k0_off1_inb d0)) (mm v21 v24 v38) Finset.univ (View.stores_vmem_bits_univ h_S128x64 rfl) (.inl rfl))

/-- One step of the program after its own block. -/
inductive Op where
  | start (i : Fin 11)
  | arrive (i : Fin 11)
  | block (s : Fin 32)
  | drain (l : Fin 32)
  | leftRd (i : Fin 11)
  | leftRes (l : Fin 32)

/-- A step's program. -/
def runOp (d0 : Dev nD) (v21 : F .f32) (v24 : FVec F S128x4096 .bf16) : Op → Prog (TpuEff nD τ sig (Elt F) Λ₀ .tc) PUnit
  | .start i => startRd d0 i
  | .arrive i => waitRd i
  | .block s => doBlock d0 v21 v24 s
  | .drain l => drain d0 l
  | .leftRd i => leftRd i
  | .leftRes l => leftRes l

/-- The steps in program order: the gather's flights with the blocks between them, the arrivals of
the result tiles, then the waits for everything sent to have left. -/
def program : List Op :=
  [.start 0, .start 1, .arrive 0, .start 2, .start 3, .block 1, .arrive 1, .arrive 2, .start 4, .start 5,
   .block 2, .block 3, .arrive 3, .arrive 4, .start 6, .start 7, .start 8, .block 4, .block 5, .block 6, .block 7,
   .arrive 5, .arrive 6, .start 9, .start 10,
   .block 8, .block 9, .block 10, .block 11, .block 12, .block 13, .block 14, .block 15, .arrive 7,
   .block 16, .block 17, .block 18, .block 19, .arrive 8, .block 20, .block 21, .block 22, .block 23, .arrive 9,
   .block 24, .block 25, .block 26, .block 27, .arrive 10, .block 28, .block 29, .block 30, .block 31,
   .drain 1, .drain 2, .drain 3, .drain 4, .drain 5, .drain 6, .drain 7, .drain 8, .drain 9, .drain 10, .drain 11, .drain 12,
   .drain 13, .drain 14, .drain 15, .drain 16, .drain 17, .drain 18, .drain 19, .drain 20, .drain 21, .drain 22, .drain 23,
   .drain 24, .drain 25, .drain 26, .drain 27, .drain 28, .drain 29, .drain 30, .drain 31,
   .leftRd 0, .leftRd 1, .leftRd 2, .leftRd 3, .leftRd 4, .leftRd 5, .leftRd 6, .leftRd 7, .leftRd 8, .leftRd 9, .leftRd 10,
   .leftRes 1, .leftRes 2, .leftRes 3, .leftRes 4, .leftRes 5, .leftRes 6, .leftRes 7, .leftRes 8, .leftRes 9, .leftRes 10,
   .leftRes 11, .leftRes 12, .leftRes 13, .leftRes 14, .leftRes 15, .leftRes 16, .leftRes 17, .leftRes 18, .leftRes 19,
   .leftRes 20, .leftRes 21, .leftRes 22, .leftRes 23, .leftRes 24, .leftRes 25, .leftRes 26, .leftRes 27, .leftRes 28,
   .leftRes 29, .leftRes 30, .leftRes 31]

/-- The kernel's body over its pieces. -/
def kbody : Prog (TpuEff nD τ sig (Elt F) Λ₀ .tc) PUnit := do
  let d0 : Dev nD ← Prog.lift .deviceId
  let v ← opening d0
  own d0 v.1 v.2
  each (runOp d0 v.1 v.2) program

end Cert.KernelIdeal.K
-- ==== Proof.Proto.lean ====
module

public import proofs.«01_k».proof.Proof.Struct
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Release
public import Idealize.ShloMosaic.Lib.ShareLeaves
public import Idealize.ShloMosaic.Lib.ValueIdx

@[expose] public section

/-! The protocol of the kernel: what every buffer holds when, which semaphore carries what, and who
owes which signal. Device `c`'s gather slot `s` comes to hold the weights of device `c xor xv s`;
its result tile `l` comes to hold the block device `c xor l` computed with `c`'s weights. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Idealize.ShloMosaic.ValueIdx

variable {F : FTy → Type} [FloatOps F]

/-! ## The resource algebra -/

/-- The rounds of the semaphores, and the hand-over of the result tiles (keyed by device and label). -/
abbrev UB : Type := URounds (GSem nD τ sig) (Fin 5) × USlots (Dev nD × Fin 32)
/-- The ghost state: the pipeline's, and the body's. -/
abbrev UU : Type := UR sig nD τ × UB

local notation "𝕄" => MT nD τ sig Unit (Elt F) ℕ UU ℕ

/-- Where the pipeline's part lies. -/
abbrev EP : Emb (UR sig nD τ) (MT nD τ sig Unit (Elt F) ℕ UU ℕ) := embL
/-- Where the semaphores' rounds lie. -/
abbrev ER : Emb (URounds (GSem nD τ sig) (Fin 5)) (MT nD τ sig Unit (Elt F) ℕ UU ℕ) := Emb.inl.trans embR
/-- Where the exclusive slots lie. -/
abbrev ES : Emb (USlots (Dev nD × Fin 32)) (MT nD τ sig Unit (Elt F) ℕ UU ℕ) := Emb.inr.trans embR

instance ER_lands : (ER (F := F)).LandsIn (upEmb : UEmb _ 𝕄) := by unfold ER; infer_instance
instance ES_lands : (ES (F := F)).LandsIn (upEmb : UEmb _ 𝕄) := by unfold ES; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Device arithmetic -/

/-- The device at distance `l`. -/
def xr (c : Dev nD) (l : Fin 32) : Dev nD := c ^^^ l

/-- Going by a label twice leads back. -/
theorem xr_xr : ∀ (c : Dev nD) (l : Fin 32), xr (xr c l) l = c := by decide +kernel
/-- Label 0 is the device itself. -/
theorem xr_zero : ∀ c : Dev nD, xr c 0 = c := by decide +kernel
/-- A label and a device may be exchanged. -/
theorem xr_comm : ∀ (a : Dev nD) (b : Fin 32), xr a b = xr b a := by decide +kernel
/-- The label between two devices leads from one to the other. -/
theorem xr_left : ∀ (c d : Dev nD), xr c (xr c d) = d := by decide +kernel
/-- Only between a device and itself the label is 0. -/
theorem xr_ne_zero : ∀ (c d : Dev nD), xr c d = 0 ↔ d = c := by decide +kernel
/-- The device of a barrier signal, in closed form. -/
theorem barDev_eq : ∀ (r : Fin 5) (c : Dev nD), barDev r c = xr c (rmask r) := by decide +kernel
/-- The device of a flight, in closed form. -/
theorem rdDev_eq : ∀ (i : Fin 11) (c : Dev nD), rdDev i c = xr c (rmask (frd i)) := by decide +kernel
/-- The device of a tile, in closed form. -/
theorem blkDev_eq : ∀ (s : Fin 32) (c : Dev nD), blkDev s c = xr c (xv s) := by decide +kernel
/-- The rows of the device's own tile. -/
theorem off1_eq : ∀ (c : Dev nD), k0_off1 c = ![128 * c.val, 0] := by decide +kernel
/-- The upper rows of a received tile. -/
theorem off2_eq : ∀ (c : Dev nD) (l : Fin 32), k0_off2 c (BitVec.ofNat 32 l.val) = ![128 * (xr c l).val, 0] := by decide +kernel
/-- The lower rows of a received tile. -/
theorem off3_eq : ∀ (c : Dev nD) (l : Fin 32), k0_off3 c (BitVec.ofNat 32 l.val) = ![128 * (xr c l).val + 64, 0] := by decide +kernel
/-- The slot of a slot's label is that slot. -/
theorem sv_xv : ∀ s : Fin 32, sv (xv s) = s := by decide
/-- The label of a label's slot is that label. -/
theorem xv_sv : ∀ l : Fin 32, xv (sv l) = l := by decide
/-- Different rounds have different masks. -/
theorem rmask_inj : ∀ r r' : Fin 5, rmask r = rmask r' → r = r' := by decide

/-- Turning by a distance, as a rearrangement of the devices. -/
def xrE (l : Fin 32) : Dev nD ≃ Dev nD := ⟨fun c => xr c l, fun c => xr c l, fun c => xr_xr c l, fun c => xr_xr c l⟩

/-- The slots a flight reads, and the slots it writes. -/
def slS (i : Fin 11) : Finset (Fin 32) := Finset.univ.filter fun t => fsrc i ≤ t.val ∧ t.val < fsrc i + fsz i
/-- The slots that flight `i` fills. -/
def slD (i : Fin 11) : Finset (Fin 32) := Finset.univ.filter fun t => fdst i ≤ t.val ∧ t.val < fdst i + fsz i

/-- A slot moves from its place at the sender to its place at the receiver with the same owner. -/
theorem slot_owner : ∀ (i : Fin 11) (t t' : Fin 32), t ∈ slD i → t'.val + fdst i = t.val + fsrc i → ∀ c : Dev nD,
    xr (xr c (rmask (frd i))) (xv t) = xr c (xv t') := by decide +kernel
/-- Each slot that a flight fills comes from one that it reads. -/
theorem slot_back : ∀ (i : Fin 11) (t : Fin 32), t ∈ slD i → ∃ t' ∈ slS i, t'.val + fdst i = t.val + fsrc i := by decide +kernel
/-- No slot is filled by two flights. -/
theorem slD_disj : ∀ i j : Fin 11, i ≠ j → Disjoint (slD i) (slD j) := by decide +kernel
/-- No slot is read by two flights of a round. -/
theorem slS_disj : ∀ i j : Fin 11, i ≠ j → frd i = frd j → Disjoint (slS i) (slS j) := by decide +kernel
/-- No flight fills slot 0. -/
theorem slD_zero : ∀ i : Fin 11, (0 : Fin 32) ∉ slD i := by decide +kernel
/-- Every other slot is filled by some flight. -/
theorem slD_cover : ∀ t : Fin 32, t ≠ 0 → ∃ i, t ∈ slD i := by decide +kernel

/-! ## The cells -/

/-- What a semaphore is for. -/
inductive Kind where
  | bar | sL (i : Fin 11) | sR (i : Fin 11) | rL (l : Fin 32) | rR (l : Fin 32) | none
  deriving DecidableEq

/-- The kind of a semaphore. -/
def kindOf : SemLoc sig → Kind
  | .reg _ => .bar
  | .dma q =>
    if h : 5 ≤ q.val ∧ q.val < 16 then .sL ⟨q.val - 5, by omega⟩
    else if h : 16 ≤ q.val ∧ q.val < 27 then .sR ⟨q.val - 16, by omega⟩
    else if h : 27 ≤ q.val ∧ q.val < 59 then .rL ⟨q.val - 27, by omega⟩
    else if h : 59 ≤ q.val ∧ q.val < 91 then .rR ⟨q.val - 59, by omega⟩
    else .none

/-- The kernel's own scoped semaphores, and all of its semaphores, the barrier's first. -/
def osem (k : Fin 86) : SemLoc sig := .dma ⟨5 + k.val, by have := k.isLt; show 5 + k.val < 91; omega⟩
/-- The list of the kernel's semaphores: the barrier, then its own. -/
def csem (k : Fin 87) : SemLoc sig := if h : k.val = 0 then .reg barrier0 else osem ⟨k.val - 1, by omega⟩

/-- The barrier's kind. -/
theorem kind_bar : kindOf (.reg barrier0) = .bar := rfl
/-- The kind of a flight's send semaphore. -/
theorem kind_sL : ∀ i, kindOf (.dma (rdSend i)) = .sL i := by decide
/-- The kind of a flight's receive semaphore. -/
theorem kind_sR : ∀ i, kindOf (.dma (rdRecv i)) = .sR i := by decide
/-- The kind of a tile's send semaphore. -/
theorem kind_rL : ∀ l, kindOf (.dma (resSend l)) = .rL l := by decide
/-- The kind of a tile's receive semaphore. -/
theorem kind_rR : ∀ l, kindOf (.dma (resRecv l)) = .rR l := by decide

/-- A device's barrier. -/
abbrev barCell (c : Dev nD) : GSem nD τ sig := ((c : Thread nD τ), .reg barrier0)
/-- A device's send semaphore of flight `i`. -/
abbrev sLCell (c : Dev nD) (i : Fin 11) : GSem nD τ sig := ((c : Thread nD τ), .dma (rdSend i))
/-- A device's receive semaphore of flight `i`. -/
abbrev sRCell (c : Dev nD) (i : Fin 11) : GSem nD τ sig := ((c : Thread nD τ), .dma (rdRecv i))
/-- A device's send semaphore of tile `l`. -/
abbrev rLCell (c : Dev nD) (l : Fin 32) : GSem nD τ sig := ((c : Thread nD τ), .dma (resSend l))
/-- A device's receive semaphore of tile `l`. -/
abbrev rRCell (c : Dev nD) (l : Fin 32) : GSem nD τ sig := ((c : Thread nD τ), .dma (resRecv l))
/-- Semaphore `k` of the list, on a device. -/
abbrev kcell (ck : Dev nD × Fin 87) : GSem nD τ sig := ((ck.1 : Thread nD τ), csem ck.2)

/-- Where each semaphore stands in the list of all. -/
def kL (i : Fin 11) : Fin 87 := ⟨1 + i.val, by omega⟩
/-- The flights' receive semaphores in the list. -/
def kR (i : Fin 11) : Fin 87 := ⟨12 + i.val, by omega⟩
/-- The tiles' send semaphores in the list. -/
def kT (l : Fin 32) : Fin 87 := ⟨23 + l.val, by omega⟩
/-- The tiles' receive semaphores in the list. -/
def kU (l : Fin 32) : Fin 87 := ⟨55 + l.val, by omega⟩
/-- The barrier comes first. -/
theorem csem_bar : csem 0 = .reg barrier0 := rfl
/-- Where the flights' send semaphores stand. -/
theorem csem_kL : ∀ i, csem (kL i) = .dma (rdSend i) := by decide
/-- Where the flights' receive semaphores stand. -/
theorem csem_kR : ∀ i, csem (kR i) = .dma (rdRecv i) := by decide
/-- Where the tiles' send semaphores stand. -/
theorem csem_kT : ∀ l, csem (kT l) = .dma (resSend l) := by decide
/-- Where the tiles' receive semaphores stand. -/
theorem csem_kU : ∀ l, csem (kU l) = .dma (resRecv l) := by decide

/-- A flight's credit, and a tile's. -/
abbrev NF (i : Fin 11) : ℕ := (dstM i).view.dmaCredit
/-- How much a tile counts on its semaphores. -/
abbrev NT : ℕ := (stageM 0).view.dmaCredit
/-- A flight counts something. -/
theorem NF_pos (i : Fin 11) : 0 < NF i := View.dmaCredit_pos _ (by revert i; decide)
/-- A tile counts something. -/
theorem NT_pos : 0 < NT := View.dmaCredit_pos _ (by decide)
/-- A flight counts as much where it is read. -/
theorem NF_src (i : Fin 11) : (srcM i).view.dmaCredit = NF i := rfl
/-- Every tile counts the same where it is written, -/
theorem NT_stage (l : Fin 32) : (stageM l).view.dmaCredit = NT := rfl
/-- and where it is read. -/
theorem NT_pack (l : Fin 32) : (packM l).view.dmaCredit = NT := rfl

/-! ## Contents -/

/-- The four operands as the pipeline stages them, before the body. -/
def iarr (c : Dev nD) (w : Fin cfg0.W) := (s₀ m ρ).mem ((cfg0.win w).arr.view.loc (c : Thread nD τ))
/-- The staged activations. -/
def xstg (c : Dev nD) : (cc0_stg0_0 : Ref sig .tc).ty.Contents (Elt F) := ((cfg0.win 0).blk t0_0).view.read (Elt F) (iarr m ρ c 0)
/-- The staged weights. -/
def wstg (c : Dev nD) : (cc0_stg1_0 : Ref sig .tc).ty.Contents (Elt F) := ((cfg0.win 1).blk t0_0).view.read (Elt F) (iarr m ρ c 1)
/-- The staged scale of x. -/
def sxstg (c : Dev nD) : (cc0_stg2_0 : Ref sig .tc).ty.Contents (Elt F) := ((cfg0.win 2).blk t0_0).view.read (Elt F) (iarr m ρ c 2)
/-- The staged scale of w. -/
def swstg (c : Dev nD) : (cc0_stg3_0 : Ref sig .tc).ty.Contents (Elt F) := ((cfg0.win 3).blk t0_0).view.read (Elt F) (iarr m ρ c 3)

/-- Device `o`'s weights packed: the upper half of the rows on the left, the lower half on the right. -/
def wpk (o : Dev nD) (p : Fin 2048) (q : Fin 128) : Elt F .fp8e4m3 :=
  wstg m ρ o (ix2 (⟨p.val + 2048 * (q.val / 64), by omega⟩ : Fin 4096) (⟨q.val % 64, by omega⟩ : Fin 64))

/-- The gather buffer when full, and one slot of it. -/
def Gc (c : Dev nD) : (cc0_scratch0 : Ref sig .tc).ty.Contents (Elt F) :=
  fun (i : S32x2048x128.Idx) => wpk m ρ (xr c (xv (i 0))) (i 1) (i 2)
/-- The packed weights of device `o`, as one slot. -/
def gw (o : Dev nD) : Vec F S1x2048x128 .fp8e4m3 := fun (i : S1x2048x128.Idx) => wpk m ρ o (i 1) (i 2)

/-- The scale and the activations of device `d`. -/
def vS (d : Dev nD) : F .f32 := k0_pay1 (sxstg m ρ d (ix1 (0 : Fin 1))) (swstg m ρ d (ix1 (0 : Fin 1)))
/-- Device `d`'s activations, as the products take them. -/
def vX (d : Dev nD) : FVec F S128x4096 .bf16 := k0_pay2 (xstg m ρ d)

/-- The block device `d` computes with the weights of device `o`: exact, rounded, and widened again. -/
def blk (d o : Dev nD) : FVec F S128x64 .f32 := mm (vS m ρ d) (vX m ρ d) (gw m ρ o)
/-- The tile of device `d`'s rows and device `o`'s columns, rounded. -/
def blk16 (d o : Dev nD) : FVec F S128x64 .bf16 := mm16 (vS m ρ d) (vX m ρ d) (gw m ρ o)
/-- The same tile, widened to float32. -/
def blkE (d o : Dev nD) : FVec F S128x64 .f32 := extf .f32 (blk16 m ρ d o) bitsLt_bf16_f32

/-- A rounded block as a tile: its upper rows on the left, its lower rows on the right. -/
def tile (d o : Dev nD) (p : Fin 64) (q : Fin 128) : Elt F .bf16 :=
  blk16 m ρ d o (ix2 (⟨p.val + 64 * (q.val / 64), by omega⟩ : Fin 128) (⟨q.val % 64, by omega⟩ : Fin 64))

/-- The packed results when all are computed, and the arrived results when all are there. -/
def Pc (c : Dev nD) : (cc0_scratch1 : Ref sig .tc).ty.Contents (Elt F) :=
  fun (i : S32x64x128.Idx) => tile m ρ c (xr c (xv (i 0))) (i 1) (i 2)
/-- What the received tiles hold in the end. -/
def Rc (c : Dev nD) : (cc0_scratch2 : Ref sig .tc).ty.Contents (Elt F) :=
  fun (i : S32x64x128.Idx) => tile m ρ (xr c (i 0)) c (i 1) (i 2)

/-- The device whose rows an output row belongs to. -/
def rowDev (i : S4096x64.Idx) : Dev nD := ⟨(i 0).val / 128, by have := idx2_lt0 i; show (i 0).val / 128 < 32; omega⟩

/-- The result on device `c`: its own rows exact, the other devices' rounded on the way. -/
def Oc (c : Dev nD) : (cc0_stg4_0 : Ref sig .tc).ty.Contents (Elt F) :=
  fun (i : S4096x64.Idx) =>
    (if rowDev i = c then blk m ρ c c else blkE m ρ (rowDev i) c)
      (ix2 (⟨(i 0).val % 128, by omega⟩ : Fin 128) (i 1 : Fin 64))

/-! ## The pieces of the buffers -/

/-- A gather slot at one of its eight shares, and a flight's source and destination. -/
def slot1 (c : Dev nD) (t : Fin 32) (k : Fin 8) : sProp 𝕄 :=
  (c : Thread nD τ).loc cc0_scratch0 ↦[Finset.univ.filter fun i : S32x2048x128.Idx => (i 0).val = t.val]{ShareLeaves.leaf 3 fullShare k} Gc m ρ c
/-- The share of the gather buffer that flight `i` reads. -/
def srcPts (c : Dev nD) (i : Fin 11) : sProp 𝕄 :=
  (srcM i).view.loc (c : Thread nD τ) ↦[(srcM i).view.set]{ShareLeaves.leaf 3 fullShare ⟨(frd i).val, by omega⟩} Gc m ρ c
/-- The slots that flight `i` fills, with contents `f`. -/
def dstPts (c : Dev nD) (i : Fin 11) (f : Buf (Elt F) ((dstM i).view.loc (c : Thread nD τ))) : sProp 𝕄 :=
  (dstM i).view.loc (c : Thread nD τ) ↦[(dstM i).view.set]{fullShare} f
/-- The packed tile of slot `s`, with contents `f`. -/
def packPts (c : Dev nD) (s : Fin 32) (f : Buf (Elt F) ((packM s).view.loc (c : Thread nD τ))) : sProp 𝕄 :=
  (packM s).view.loc (c : Thread nD τ) ↦[(packM s).view.set]{fullShare} f
/-- The received tile of label `l`, with contents `f`. -/
def stagePts (c : Dev nD) (l : Fin 32) (f : Buf (Elt F) ((stageM l).view.loc (c : Thread nD τ))) : sProp 𝕄 :=
  (stageM l).view.loc (c : Thread nD τ) ↦[(stageM l).view.set]{fullShare} f

instance srcPts_storable (c : Dev nD) (i : Fin 11) : BI.Storable (upEmb : UEmb _ 𝕄) (srcPts (F := F) m ρ c i) := by unfold srcPts; infer_instance
instance dstPts_storable (c : Dev nD) (i : Fin 11) (f) : BI.Storable (upEmb : UEmb _ 𝕄) (dstPts (F := F) c i f) := by unfold dstPts; infer_instance
instance packPts_storable (c : Dev nD) (s : Fin 32) (f) : BI.Storable (upEmb : UEmb _ 𝕄) (packPts (F := F) c s f) := by unfold packPts; infer_instance
instance stagePts_storable (c : Dev nD) (l : Fin 32) (f) : BI.Storable (upEmb : UEmb _ 𝕄) (stagePts (F := F) c l f) := by unfold stagePts; infer_instance

/-- Device `o` has laid out all its result tiles for their senders. -/
def Entered (o : Dev nD) : sProp 𝕄 := bigSep Finset.univ fun l : Fin 32 => released ES (o, l) 1

instance Entered_persistent (o : Dev nD) : BI.Persistent (Entered (F := F) o) := by unfold Entered; infer_instance
instance Entered_storable (o : Dev nD) : BI.Storable (upEmb : UEmb _ 𝕄) (Entered (F := F) o) := by unfold Entered; infer_instance

/-- What the barrier signal of round `r` hands device `c`: its partner's slots of that round's flights. -/
def barPay (c : Dev nD) (r : Fin 5) : sProp 𝕄 :=
  bigSep (Finset.univ.filter fun i : Fin 11 => frd i = r) fun i => iprop(∃ f, dstPts (xr c (rmask (frd i))) i f)
/-- What travels with a flight's slots: that their owners have laid out their result tiles. -/
def ents (c : Dev nD) (i : Fin 11) : sProp 𝕄 := bigSep (slD i) fun t => Entered (xr c (xv t))
/-- What a flight's arrival brings: its slots filled, and word that the owners have entered. -/
def flyPay (c : Dev nD) (i : Fin 11) : sProp 𝕄 := iprop(dstPts c i (Gc m ρ c) ∗ ents c i)

instance ents_persistent (c : Dev nD) (i : Fin 11) : BI.Persistent (ents (F := F) c i) := by unfold ents; infer_instance

/-! ## The schedule -/

/-- The duties of a semaphore, by its kind. -/
def dutiesOf : Kind → Finset (Fin 5)
  | .bar => Finset.univ
  | .sL _ | .sR _ => {0}
  | .rL l | .rR l => if l = 0 then ∅ else {0}
  | .none => ∅
/-- What each of them counts. -/
def amountOf : Kind → ℕ
  | .bar => 1
  | .sL i | .sR i => NF i
  | .rL _ | .rR _ => NT
  | .none => 1
/-- What each of them brings. -/
def payOf (c : Dev nD) : Kind → Fin 5 → sProp 𝕄
  | .bar, r => barPay c r
  | .sL i, _ => srcPts m ρ c i
  | .sR i, _ => flyPay m ρ c i
  | .rL l, _ => packPts c (sv l) (Pc m ρ c)
  | .rR l, _ => stagePts c l (Rc m ρ c)
  | .none, _ => iprop(emp)

/-- One round on every semaphore. -/
def Rd : Rounds.Schedule (GSem nD τ sig) (Fin 5) 𝕄 where
  duties g r := if r = 0 ∧ g.1.2 = .tc then dutiesOf (kindOf g.2) else ∅
  unitless _ := False
  amount g _ _ := amountOf (kindOf g.2)
  payload g _ d := payOf m ρ g.1.1 (kindOf g.2) d
  amount_pos g _ _ _ := by
    cases kindOf g.2
    · exact Nat.one_pos
    · exact NF_pos _
    · exact NF_pos _
    · exact NT_pos
    · exact NT_pos
    · exact Nat.one_pos

instance Rd_payload_storable (g : GSem nD τ sig) (r : ℕ) (d : Fin 5) :
    BI.Storable (upEmb : UEmb _ 𝕄) ((Rd (F := F) m ρ).payload g r d) := by
  show BI.Storable upEmb (payOf m ρ g.1.1 (kindOf g.2) d)
  cases kindOf g.2 <;> unfold payOf
  · unfold barPay; infer_instance
  · infer_instance
  · unfold flyPay ents; infer_instance
  · infer_instance
  · infer_instance
  · infer_instance

section Sched
variable (c : Dev nD)

/-- The schedule's duties are those of the semaphore's kind. -/
theorem duties_zero (sm : SemLoc sig) : (Rd (F := F) m ρ).duties ((c : Thread nD τ), sm) 0 = dutiesOf (kindOf sm) := by
  show (if (0 : ℕ) = 0 ∧ (c : Thread nD τ).2 = .tc then dutiesOf (kindOf sm) else ∅) = _
  exact if_pos ⟨rfl, rfl⟩
/-- The barrier has five duties, one of each round. -/
theorem duties_bar : (Rd (F := F) m ρ).duties (barCell c) 0 = Finset.univ := by
  rw [duties_zero]; rfl
/-- A flight's send semaphore has one. -/
theorem duties_sL (i : Fin 11) : (Rd (F := F) m ρ).duties (sLCell c i) 0 = {0} := by
  rw [duties_zero, kind_sL]; rfl
/-- A flight's receive semaphore has one. -/
theorem duties_sR (i : Fin 11) : (Rd (F := F) m ρ).duties (sRCell c i) 0 = {0} := by
  rw [duties_zero, kind_sR]; rfl
/-- A tile's send semaphore has one. -/
theorem duties_rL {l : Fin 32} (h : l ≠ 0) : (Rd (F := F) m ρ).duties (rLCell c l) 0 = {0} := by
  rw [duties_zero, kind_rL]; exact if_neg h
/-- A tile's receive semaphore has one. -/
theorem duties_rR {l : Fin 32} (h : l ≠ 0) : (Rd (F := F) m ρ).duties (rRCell c l) 0 = {0} := by
  rw [duties_zero, kind_rR]; exact if_neg h
/-- No semaphore has a second round. -/
theorem duties_later (g : GSem nD τ sig) : ∀ r, 1 ≤ r → (Rd (F := F) m ρ).duties g r = ∅ :=
  fun r hr => if_neg fun h => by omega
/-- The send semaphore of tile 0 is never used. -/
theorem duties_rL0 : ∀ r, 0 ≤ r → (Rd (F := F) m ρ).duties (rLCell c 0) r = ∅ := fun r _ => by
  show (if r = 0 ∧ (c : Thread nD τ).2 = .tc then dutiesOf (kindOf (.dma (resSend 0))) else ∅) = ∅; rw [kind_rL]; split <;> rfl
/-- Nor is its receive semaphore. -/
theorem duties_rR0 : ∀ r, 0 ≤ r → (Rd (F := F) m ρ).duties (rRCell c 0) r = ∅ := fun r _ => by
  show (if r = 0 ∧ (c : Thread nD τ).2 = .tc then dutiesOf (kindOf (.dma (resRecv 0))) else ∅) = ∅; rw [kind_rR]; split <;> rfl

/-- A barrier signal counts one. -/
theorem amount_bar (r : ℕ) (d : Fin 5) : (Rd (F := F) m ρ).amount (barCell c) r d = 1 := rfl
/-- A flight's departure counts the flight. -/
theorem amount_sL (i : Fin 11) (r : ℕ) (d : Fin 5) : (Rd (F := F) m ρ).amount (sLCell c i) r d = NF i := by
  show amountOf (kindOf _) = _; rw [kind_sL]; rfl
/-- So does its arrival. -/
theorem amount_sR (i : Fin 11) (r : ℕ) (d : Fin 5) : (Rd (F := F) m ρ).amount (sRCell c i) r d = NF i := by
  show amountOf (kindOf _) = _; rw [kind_sR]; rfl
/-- A tile's departure counts the tile. -/
theorem amount_rL (l : Fin 32) (r : ℕ) (d : Fin 5) : (Rd (F := F) m ρ).amount (rLCell c l) r d = NT := by
  show amountOf (kindOf _) = _; rw [kind_rL]; rfl
/-- So does its arrival. -/
theorem amount_rR (l : Fin 32) (r : ℕ) (d : Fin 5) : (Rd (F := F) m ρ).amount (rRCell c l) r d = NT := by
  show amountOf (kindOf _) = _; rw [kind_rR]; rfl

/-- What a barrier signal brings. -/
theorem payload_bar (r : ℕ) (d : Fin 5) : (Rd (F := F) m ρ).payload (barCell c) r d = barPay c d := rfl
/-- A flight's departure gives back what it read. -/
theorem payload_sL (i : Fin 11) (r : ℕ) (d : Fin 5) : (Rd (F := F) m ρ).payload (sLCell c i) r d = srcPts m ρ c i := by
  show payOf m ρ c (kindOf _) d = _; rw [kind_sL]; rfl
/-- A flight's arrival brings the slots filled. -/
theorem payload_sR (i : Fin 11) (r : ℕ) (d : Fin 5) : (Rd (F := F) m ρ).payload (sRCell c i) r d = flyPay m ρ c i := by
  show payOf m ρ c (kindOf _) d = _; rw [kind_sR]; rfl
/-- A tile's departure gives back the packed tile. -/
theorem payload_rL (l : Fin 32) (r : ℕ) (d : Fin 5) : (Rd (F := F) m ρ).payload (rLCell c l) r d = packPts c (sv l) (Pc m ρ c) := by
  show payOf m ρ c (kindOf _) d = _; rw [kind_rL]; rfl
/-- A tile's arrival brings the received tile. -/
theorem payload_rR (l : Fin 32) (r : ℕ) (d : Fin 5) : (Rd (F := F) m ρ).payload (rRCell c l) r d = stagePts c l (Rc m ρ c) := by
  show payOf m ρ c (kindOf _) d = _; rw [kind_rR]; rfl

/-- A cell of one duty expects that duty's amount, and its round leaves that duty's payload. -/
theorem expect_one {g : GSem nD τ sig} {n : ℕ} (hd : (Rd (F := F) m ρ).duties g 0 = {0}) (ha : (Rd (F := F) m ρ).amount g 0 0 = n) :
    (Rd (F := F) m ρ).expect g 0 = n := by
  unfold Schedule.expect Schedule.amountOf; rw [hd, Finset.sum_singleton, ha]
/-- A semaphore with one duty brings that duty's payload. -/
theorem rest_one {g : GSem nD τ sig} {P : sProp 𝕄} (hd : (Rd (F := F) m ρ).duties g 0 = {0}) (hp : (Rd (F := F) m ρ).payload g 0 0 = P) :
    bigSep ((Rd (F := F) m ρ).duties g 0 \ ∅) (fun d => (Rd (F := F) m ρ).payload g 0 d) = P := by
  rw [Finset.sdiff_empty, hd, bigSep_singleton, hp]
/-- The barrier waits for five. -/
theorem expect_bar : (Rd (F := F) m ρ).expect (barCell c) 0 = 5 := by
  unfold Schedule.expect Schedule.amountOf
  rw [duties_bar, Finset.sum_congr rfl fun d _ => amount_bar m ρ c 0 d, Finset.sum_const, Finset.card_univ, Fintype.card_fin, smul_eq_mul]

end Sched

/-! ## Debts and levels -/

/-- What device `c` owes when the barrier rounds `B`, the flights `R` and the tiles `S` are still to be sent. -/
def owe (c : Dev nD) (B : Finset (Fin 5)) (R : Finset (Fin 11)) (S : Finset (Fin 32)) : CellTallies nD τ sig Unit :=
  (∑ r ∈ B, tallyAt (barCell (xr c (rmask r))) () 1) + (∑ i ∈ R, tallyAt (sRCell (xr c (rmask (frd i))) i) () (NF i))
    + ∑ l ∈ S, tallyAt (rRCell (xr c l) l) () NT

/-- A barrier signal taken out of what is owed. -/
theorem owe_bar (c : Dev nD) {B R S} {r : Fin 5} (h : r ∈ B) :
    owe c B R S = owe c (B.erase r) R S + tallyAt (barCell (xr c (rmask r))) () 1 := by
  unfold owe; rw [← Finset.sum_erase_add B _ h]; abel
/-- A flight taken out of what is owed. -/
theorem owe_fly (c : Dev nD) {B R S} {i : Fin 11} (h : i ∈ R) :
    owe c B R S = owe c B (R.erase i) S + tallyAt (sRCell (xr c (rmask (frd i))) i) () (NF i) := by
  unfold owe; rw [← Finset.sum_erase_add R _ h]; abel
/-- A tile taken out of what is owed. -/
theorem owe_tile (c : Dev nD) {B R S} {l : Fin 32} (h : l ∈ S) :
    owe c B R S = owe c B R (S.erase l) + tallyAt (rRCell (xr c l) l) () NT := by
  unfold owe; rw [← Finset.sum_erase_add S _ h]; abel
/-- With nothing left to send, nothing is owed. -/
theorem owe_none (c : Dev nD) : owe c ∅ ∅ ∅ = 0 := by unfold owe; simp

/-- The one label of each TensorCore semaphore. -/
def L (g : GSem nD τ sig) : Finset Unit := if g.1.2 = .tc then {()} else ∅
/-- No other semaphore has one. -/
theorem L_of_ne (g : GSem nD τ sig) (h : g.1.2 ≠ .tc) : L g = ∅ := if_neg h
/-- A device's semaphores have it. -/
theorem L_tc (c : Dev nD) (sm : SemLoc sig) : L ((c : Thread nD τ), sm) = {()} := if_pos rfl

/-- The barrier lowest, then the flights in order, then the tiles; staging and send semaphores at zero. -/
def lvOf : Kind → ℕ
  | .bar => 1
  | .sR i => 2 + i.val
  | .rR _ => 20
  | _ => 0
/-- The level of a semaphore, by its kind. -/
def lv (g : GSem nD τ sig) (_ : Unit) : ℕ := lvOf (kindOf g.2)

/-- What is owed is owed to a barrier, a flight's arrival or a tile's arrival. -/
theorem owe_pos {c : Dev nD} {B R S} {g : GSem nD τ sig} {u : Unit} (h : 0 < owe c B R S g u) :
    (∃ r ∈ B, g = barCell (xr c (rmask r))) ∨ (∃ i ∈ R, g = sRCell (xr c (rmask (frd i))) i) ∨ ∃ l ∈ S, g = rRCell (xr c l) l := by
  by_contra hn
  rw [not_or, not_or] at hn
  obtain ⟨h1, h2, h3⟩ := hn
  unfold owe at h
  rw [Pi.add_apply, Finsupp.add_apply, Pi.add_apply, Finsupp.add_apply, Finset.sum_apply, Finset.sum_apply, Finset.sum_apply,
    Finsupp.finset_sum_apply, Finsupp.finset_sum_apply, Finsupp.finset_sum_apply] at h
  rw [Finset.sum_eq_zero (fun r hr => by rw [tallyAt_apply]; exact if_neg fun e => h1 ⟨r, hr, e.1⟩),
    Finset.sum_eq_zero (fun i hi => by rw [tallyAt_apply]; exact if_neg fun e => h2 ⟨i, hi, e.1⟩),
    Finset.sum_eq_zero (fun l hl => by rw [tallyAt_apply]; exact if_neg fun e => h3 ⟨l, hl, e.1⟩)] at h
  exact Nat.lt_irrefl 0 h

/-- A device may wait at a level below everything it still owes. -/
theorem mayWait (c : Dev nD) (sm : SemLoc sig) {B R S} (n : ℕ) (hn : lvOf (kindOf sm) = n)
    (hB : ∀ r ∈ B, n < 1) (hR : ∀ i ∈ R, n < 2 + i.val) (hS : ∀ l ∈ S, n < 20) :
    (levAts L lv : sProp 𝕄) ⊢ MayWait (c : Thread nD τ) sm () (owe c B R S) := by
  refine MayOwe.of_cut (L := L) (lev := lv) n (fun p hp => by rw [Finset.mem_singleton.mp hp, L_tc]; exact Finset.mem_singleton_self _)
    (fun g u hg => by rcases owe_pos hg with ⟨r, _, rfl⟩ | ⟨i, _, rfl⟩ | ⟨l, _, rfl⟩ <;> exact Finset.mem_singleton_self _)
    (fun p hp => by rw [Finset.mem_singleton.mp hp]; exact le_of_eq hn)
    (fun g u hg => by
      rcases owe_pos hg with ⟨r, h, rfl⟩ | ⟨i, h, rfl⟩ | ⟨l, h, rfl⟩
      · exact hB r h
      · show n < lvOf (kindOf _); rw [kind_sR]; exact hR i h
      · show n < lvOf (kindOf _); rw [kind_rR]; exact hS l h)

end Cert.KernelIdeal.K
-- ==== Proof.Pure.lean ====
module

public import proofs.«01_k».proof.Proof.Proto
public import Idealize.ShloMosaic.Lib.Pipeline.Value

@[expose] public section

/-! What the kernel's loads, stores and copies do to the contents: pure facts, pointwise. -/

noncomputable section

namespace Cert.KernelIdeal.K

open Cert.KernelIdeal Cert.KernelIdeal.Gen
open Idealize.ShloMosaic
open Idealize.ShloMosaic.TcCoe
open Idealize.SL.Sem
open Idealize.ShloMosaic.ValueIdx Idealize.ShloMosaic.Pipeline

variable {F : FTy → Type} [FloatOps F]
variable (m : (ℓ : Loc nD τ sig) → Buf (Elt F) ℓ) (ρ : Dev nD → PrngReg)

/-! ## Rectangles of whole buffers -/

section Rects
variable {Val : EltTy → Type} (b : Ref sig .tc) {off size : Fin b.ty.shape.rank → ℕ} (inb : ∀ a, off a + size a ≤ b.ty.shape.size a)

/-- Where a slice puts an index. -/
theorem emb_unit_eq (i : b.ty.shape.Idx) (x : (Rect.unit (s := b.ty.shape) off size inb).shape.Idx) (hx : ∀ a, (i a).val = off a + (x a).val) :
    (Rect.unit (s := b.ty.shape) off size inb).emb x = i :=
  funext fun a => Fin.ext (by rw [hx a, Rect.emb_apply]; show off a + 1 * (x a).val = _; rw [Nat.one_mul])

/-- A store into a rectangle of a whole buffer, inside and outside the rectangle. -/
theorem write_unit_mem (f : b.ty.Contents Val) (w : (Rect.unit (s := b.ty.shape) off size inb).shape.Idx → Val b.ty.elt) (i : b.ty.shape.Idx)
    (x : (Rect.unit (s := b.ty.shape) off size inb).shape.Idx) (hx : ∀ a, (i a).val = off a + (x a).val) :
    ((Memref.whole b).access (Rect.unit off size inb) : View sig .tc _ _ _).write Val f w Finset.univ i = w x := by
  have h := View.write_emb_of_mem (v := ((Memref.whole b).access (Rect.unit off size inb) : View sig .tc _ _ _)) (Val := Val) f w (Finset.mem_univ x)
  rw [show ((Memref.whole b).access (Rect.unit off size inb) : View sig .tc _ _ _).emb x = i from emb_unit_eq b inb i x hx] at h
  exact h
/-- The indices that a slice covers. -/
theorem mem_access_unit (i : b.ty.shape.Idx) :
    i ∈ ((Memref.whole b).access (Rect.unit off size inb) : View sig .tc _ _ _).set ↔ ∀ a, off a ≤ (i a).val ∧ (i a).val < off a + size a := by
  rw [show ((Memref.whole b).access (Rect.unit off size inb) : View sig .tc _ _ _).set = (Rect.unit (s := b.ty.shape) off size inb).set from View.set_slice_whole b _]
  exact Rect.mem_set_unit
/-- A write to a slice changes nothing outside it. -/
theorem write_unit_not_mem (f : b.ty.Contents Val) (w : (Rect.unit (s := b.ty.shape) off size inb).shape.Idx → Val b.ty.elt) (i : b.ty.shape.Idx)
    (hi : ¬ ∀ a, off a ≤ (i a).val ∧ (i a).val < off a + size a) :
    ((Memref.whole b).access (Rect.unit off size inb) : View sig .tc _ _ _).write Val f w Finset.univ i = f i :=
  View.write_of_not_mem _ _ _ (by rw [View.setOn_univ, mem_access_unit]; exact hi)
/-- A load of a rectangle of a whole buffer. -/
theorem read_unit (f : b.ty.Contents Val) (i : b.ty.shape.Idx) (x : (Rect.unit (s := b.ty.shape) off size inb).shape.Idx) (hx : ∀ a, (i a).val = off a + (x a).val) :
    (Memref.whole b : Memref sig .tc _ _ _).view.readAt Val (Rect.unit off size inb).toLoadRect f x = f i :=
  congrArg f (emb_unit_eq b inb i x hx)

end Rects

/-! ## Reshapes between a matrix and a stack of one matrix -/

/-- A leading axis of length one, put in front of an index. -/
theorem reshape_up {a b : ℕ} (h : (⟨2, ![a, b]⟩ : Shape).numel = (⟨3, ![1, a, b]⟩ : Shape).numel) (j : (⟨2, ![a, b]⟩ : Shape).Idx) :
    Shape.reshapeEquiv h j = ix3 (0 : Fin 1) (j 0) (j 1) := by
  rw [show Shape.reshapeEquiv h j = _ from Shape.reshapeEquiv_cons_one (n := 2) (d := ![a, b]) h j]
  funext x; match x with | ⟨0, _⟩ => rfl | ⟨1, _⟩ => rfl | ⟨2, _⟩ => rfl
/-- The same axis taken off. -/
theorem reshape_down {a b : ℕ} (h : (⟨3, ![1, a, b]⟩ : Shape).numel = (⟨2, ![a, b]⟩ : Shape).numel) (j : (⟨3, ![1, a, b]⟩ : Shape).Idx) :
    Shape.reshapeEquiv h j = ix2 (j 1) (j 2) := by
  have e : Shape.reshapeEquiv h.symm (ix2 (j 1) (j 2) : (⟨2, ![a, b]⟩ : Shape).Idx) = j := by
    rw [reshape_up]; funext x
    match x with
    | ⟨0, _⟩ => exact (Fin.ext (by have := (j 0).isLt; show 0 = (j 0).val; have h2 : (j 0).val < 1 := this; omega))
    | ⟨1, _⟩ => rfl
    | ⟨2, _⟩ => rfl
  exact (congrArg (Shape.reshapeEquiv h) e.symm).trans (by rw [← Shape.reshapeEquiv_symm h.symm]; exact Equiv.symm_apply_apply _ _)
/-- An array with such an axis put in front. -/
theorem shapeCast_up {α : Type} {a b : ℕ} (x : (⟨2, ![a, b]⟩ : Shape).Idx → α) (h : (⟨2, ![a, b]⟩ : Shape).ShapeCasts ⟨3, ![1, a, b]⟩) (j : (⟨3, ![1, a, b]⟩ : Shape).Idx) :
    shapeCast ⟨3, ![1, a, b]⟩ x h j = x (ix2 (j 1) (j 2)) := congrArg x (reshape_down h j)
/-- An array with such an axis taken off. -/
theorem shapeCast_down {α : Type} {a b : ℕ} (x : (⟨3, ![1, a, b]⟩ : Shape).Idx → α) (h : (⟨3, ![1, a, b]⟩ : Shape).ShapeCasts ⟨2, ![a, b]⟩) (j : (⟨2, ![a, b]⟩ : Shape).Idx) :
    shapeCast ⟨2, ![a, b]⟩ x h j = x (ix3 (0 : Fin 1) (j 0) (j 1)) := congrArg x (reshape_up h j)
/-- A cast to the same shape changes nothing. -/
theorem shapeCast_same {α : Type} {s : Shape} (x : s.Idx → α) (h : s.ShapeCasts s) : shapeCast s x h = x :=
  funext fun j => shapeCast_apply x h j j rfl

/-! ## Which elements each view covers -/

/-- The entries that flight `i` reads. -/
theorem mem_src (i : Fin 11) (x : S32x2048x128.Idx) : x ∈ (srcM i).view.set ↔ fsrc i ≤ (x 0).val ∧ (x 0).val < fsrc i + fsz i := by
  refine (mem_access_unit cc0_scratch0 (src_inb i) x).trans ⟨fun h => h 0, fun h a => ?_⟩
  match a with
  | ⟨0, _⟩ => exact h
  | ⟨1, _⟩ => exact ⟨Nat.zero_le _, by have := (x 1).isLt; show (x 1).val < 0 + 2048; rw [Nat.zero_add]; exact this⟩
  | ⟨2, _⟩ => exact ⟨Nat.zero_le _, by have := (x 2).isLt; show (x 2).val < 0 + 128; rw [Nat.zero_add]; exact this⟩
/-- The entries that flight `i` writes. -/
theorem mem_dst (i : Fin 11) (x : S32x2048x128.Idx) : x ∈ (dstM i).view.set ↔ fdst i ≤ (x 0).val ∧ (x 0).val < fdst i + fsz i := by
  refine (mem_access_unit cc0_scratch0 (dst_inb i) x).trans ⟨fun h => h 0, fun h a => ?_⟩
  match a with
  | ⟨0, _⟩ => exact h
  | ⟨1, _⟩ => exact ⟨Nat.zero_le _, by have := (x 1).isLt; show (x 1).val < 0 + 2048; rw [Nat.zero_add]; exact this⟩
  | ⟨2, _⟩ => exact ⟨Nat.zero_le _, by have := (x 2).isLt; show (x 2).val < 0 + 128; rw [Nat.zero_add]; exact this⟩

/-- The elements of one slot, and of one tile. -/
def slotSet (t : Fin 32) : Finset S32x2048x128.Idx := Finset.univ.filter fun i : S32x2048x128.Idx => (i 0).val = t.val
/-- The entries of tile `t`. -/
def tileSet (t : Fin 32) : Finset S32x64x128.Idx := Finset.univ.filter fun i : S32x64x128.Idx => (i 0).val = t.val
/-- An entry lies in slot `t` when its first coordinate is `t`. -/
theorem mem_slotSet (t : Fin 32) (x : S32x2048x128.Idx) : x ∈ slotSet t ↔ (x 0).val = t.val := by simp [slotSet]
/-- An entry lies in tile `t` when its first coordinate is `t`. -/
theorem mem_tileSet (t : Fin 32) (x : S32x64x128.Idx) : x ∈ tileSet t ↔ (x 0).val = t.val := by simp [tileSet]

/-- A flight reads the slots of its source. -/
theorem src_set (i : Fin 11) : (srcM i).view.set = (slS i).biUnion slotSet := by
  ext x
  rw [mem_src, Finset.mem_biUnion]
  refine ⟨fun h => ⟨(x 0 : Fin 32), Finset.mem_filter.mpr ⟨Finset.mem_univ _, h⟩, (mem_slotSet _ x).mpr rfl⟩, ?_⟩
  rintro ⟨t, ht, hx⟩
  rw [(mem_slotSet t x).mp hx]; exact (Finset.mem_filter.mp ht).2
/-- A flight writes the slots of its destination. -/
theorem dst_set (i : Fin 11) : (dstM i).view.set = (slD i).biUnion slotSet := by
  ext x
  rw [mem_dst, Finset.mem_biUnion]
  refine ⟨fun h => ⟨(x 0 : Fin 32), Finset.mem_filter.mpr ⟨Finset.mem_univ _, h⟩, (mem_slotSet _ x).mpr rfl⟩, ?_⟩
  rintro ⟨t, ht, hx⟩
  rw [(mem_slotSet t x).mp hx]; exact (Finset.mem_filter.mp ht).2
/-- Different slots share no entry. -/
theorem slotSet_disj (t t' : Fin 32) (h : t ≠ t') : Disjoint (slotSet t) (slotSet t') :=
  Finset.disjoint_left.mpr fun x h1 h2 => h (Fin.ext (((mem_slotSet _ x).mp h1).symm.trans ((mem_slotSet _ x).mp h2)))
/-- Different tiles share no entry. -/
theorem tileSet_disj (t t' : Fin 32) (h : t ≠ t') : Disjoint (tileSet t) (tileSet t') :=
  Finset.disjoint_left.mpr fun x h1 h2 => h (Fin.ext (((mem_tileSet _ x).mp h1).symm.trans ((mem_tileSet _ x).mp h2)))

/-- The slice of tile `s` covers the entries of tile `s`. -/
theorem mem_tileRect (s : Fin 32) (x : S32x64x128.Idx) : x ∈ (Rect.unit (s := S32x64x128) ![s.val, 0, 0] S1x64x128.size (tile_inb s)).set ↔ (x 0).val = s.val := by
  rw [Rect.mem_set_unit]
  constructor
  · intro h; have := h 0; have h1 : s.val ≤ (x 0).val ∧ (x 0).val < s.val + 1 := this; omega
  · intro h a
    match a with
    | ⟨0, _⟩ => show s.val ≤ (x 0).val ∧ (x 0).val < s.val + 1; omega
    | ⟨1, _⟩ => exact ⟨Nat.zero_le _, by have := (x 1).isLt; show (x 1).val < 0 + 64; rw [Nat.zero_add]; exact this⟩
    | ⟨2, _⟩ => exact ⟨Nat.zero_le _, by have := (x 2).isLt; show (x 2).val < 0 + 128; rw [Nat.zero_add]; exact this⟩
/-- A packed tile's view covers that tile. -/
theorem pack_set (s : Fin 32) : (packM s).view.set = tileSet s := by
  ext x
  rw [mem_tileSet, ← mem_tileRect]
  show x ∈ (((Memref.whole cc0_scratch1).view.slice _).reshape S64x128 _).set ↔ _
  rw [View.set_reshape]
  exact Finset.ext_iff.mp (View.set_slice_whole cc0_scratch1 _) x
/-- A received tile's view covers that tile. -/
theorem stage_set (s : Fin 32) : (stageM s).view.set = tileSet s := by
  ext x
  rw [mem_tileSet, ← mem_tileRect]
  show x ∈ (((Memref.whole cc0_scratch2).view.slice _).reshape S64x128 _).set ↔ _
  rw [View.set_reshape]
  exact Finset.ext_iff.mp (View.set_slice_whole cc0_scratch2 _) x

/-! ## The copies -/

/-- What a flight writes at its destination: the receiver's final contents. -/
theorem fly_write (c : Dev nD) (i : Fin 11) (fd : (cc0_scratch0 : Ref sig .tc).ty.Contents (Elt F)) (x : S32x2048x128.Idx) (hx : x ∈ (dstM i).view.set) :
    (dstM i).view.write (Elt F) fd ((srcM i).view.read (Elt F) (Gc m ρ c)) Finset.univ x = Gc m ρ (xr c (rmask (frd i))) x := by
  have h := (mem_dst i x).mp hx
  have hl := write_unit_mem cc0_scratch0 (dst_inb i) (Val := Elt F) fd ((srcM i).view.read (Elt F) (Gc m ρ c)) x
    (ix3 (⟨(x 0).val - fdst i, by omega⟩ : Fin (fsz i)) (x 1 : Fin 2048) (x 2 : Fin 128)) (fun a => match a with
      | ⟨0, _⟩ => by show (x 0).val = fdst i + ((x 0).val - fdst i); omega
      | ⟨1, _⟩ => (Nat.zero_add _).symm
      | ⟨2, _⟩ => (Nat.zero_add _).symm)
  refine hl.trans ?_
  have hs : fsrc i + fsz i ≤ 32 := src_inb i 0
  have ht : x 0 ∈ slD i := Finset.mem_filter.mpr ⟨Finset.mem_univ _, h⟩
  refine (read_unit cc0_scratch0 (src_inb i) (Val := Elt F) (Gc m ρ c)
    (ix3 (⟨(x 0).val - fdst i + fsrc i, by omega⟩ : Fin 32) (x 1 : Fin 2048) (x 2 : Fin 128)) _ (fun a => match a with
      | ⟨0, _⟩ => Nat.add_comm _ _
      | ⟨1, _⟩ => (Nat.zero_add _).symm
      | ⟨2, _⟩ => (Nat.zero_add _).symm)).trans ?_
  unfold Gc
  rw [slot_owner i (x 0) ⟨(x 0).val - fdst i + fsrc i, by omega⟩ ht (by show (x 0).val - fdst i + fsrc i + fdst i = _; omega) c]

/-- What a tile's copy writes at its destination: the receiver's final contents. -/
theorem tile_write (c : Dev nD) (s : Fin 32) (fd : (cc0_scratch2 : Ref sig .tc).ty.Contents (Elt F)) (x : S32x64x128.Idx) (hx : x ∈ (stageM (xv s)).view.set) :
    (stageM (xv s)).view.write (Elt F) fd ((packM s).view.read (Elt F) (Pc m ρ c)) Finset.univ x = Rc m ρ (xr c (xv s)) x := by
  have h : (x 0).val = (xv s).val := (mem_tileSet _ x).mp (stage_set (xv s) ▸ hx)
  have key : ∀ (l : Fin 32), (x 0).val = l.val →
      (stageM l).view.emb (ix2 (n0 := 64) (n1 := 128) (x 1) (x 2)) = x := fun l hl => by
    show (Rect.unit (s := S32x64x128) ![l.val, 0, 0] S1x64x128.size (tile_inb l)).emb (Shape.reshapeEquiv _ (ix2 (n0 := 64) (n1 := 128) (x 1) (x 2))) = x
    rw [reshape_up]
    exact emb_unit_eq cc0_scratch2 (tile_inb l) x _ (fun a => match a with
      | ⟨0, _⟩ => hl
      | ⟨1, _⟩ => (Nat.zero_add _).symm
      | ⟨2, _⟩ => (Nat.zero_add _).symm)
  have hw := View.write_emb_of_mem (v := (stageM (xv s)).view) (Val := Elt F) fd ((packM s).view.read (Elt F) (Pc m ρ c)) (Finset.mem_univ (ix2 (n0 := 64) (n1 := 128) (x 1) (x 2)))
  refine (congrArg _ (key (xv s) h).symm).trans (hw.trans ?_)
  show Pc m ρ c ((packM s).view.emb (ix2 (n0 := 64) (n1 := 128) (x 1) (x 2))) = _
  have he : (packM s).view.emb (ix2 (n0 := 64) (n1 := 128) (x 1) (x 2)) = (ix3 s (x 1 : Fin 64) (x 2 : Fin 128) : S32x64x128.Idx) := by
    show (Rect.unit (s := S32x64x128) ![s.val, 0, 0] S1x64x128.size (tile_inb s)).emb (Shape.reshapeEquiv _ (ix2 (n0 := 64) (n1 := 128) (x 1) (x 2))) = _
    rw [reshape_up]
    exact emb_unit_eq cc0_scratch1 (tile_inb s) _ _ (fun a => match a with
      | ⟨0, _⟩ => rfl
      | ⟨1, _⟩ => (Nat.zero_add _).symm
      | ⟨2, _⟩ => (Nat.zero_add _).symm)
  rw [he]
  unfold Pc Rc
  rw [show x 0 = xv s from Fin.ext h, xr_xr]

/-! ## The loads and stores -/

/-- A slot's load gives its owner's weights. -/
theorem slot_read (c : Dev nD) (s : Fin 32) :
    gM.view.readAt (Elt F) (Rect.unit (s := S32x2048x128) ![s.val, 0, 0] S1x2048x128.size (slot_inb s)).toLoadRect (Gc m ρ c) = gw m ρ (xr c (xv s)) := by
  funext x
  have h0 : (x 0).val < 1 := (x 0).isLt
  refine (read_unit cc0_scratch0 (slot_inb s) (Val := Elt F) (Gc m ρ c) (ix3 s (x 1 : Fin 2048) (x 2 : Fin 128)) x (fun a => match a with
      | ⟨0, _⟩ => by show s.val = s.val + (x 0).val; omega
      | ⟨1, _⟩ => (Nat.zero_add _).symm
      | ⟨2, _⟩ => (Nat.zero_add _).symm)).trans ?_
  rfl

/-- Both halves stored, a slot's result tile is complete. -/
theorem pack_write (c : Dev nD) (s : Fin 32) (f : (cc0_scratch1 : Ref sig .tc).ty.Contents (Elt F)) (x : S32x64x128.Idx) (hx : (x 0).val = s.val) :
    (pM.access (Rect.unit (s := S32x64x128) ![s.val, 0, 64] S1x64x64.size (half1_inb s)) : View sig .tc _ _ _).write (Elt F)
      ((pM.access (Rect.unit (s := S32x64x128) ![s.val, 0, 0] S1x64x64.size (half0_inb s)) : View sig .tc _ _ _).write (Elt F) f
        (half0 (blk16 m ρ c (xr c (xv s)))) Finset.univ)
      (half1 (blk16 m ρ c (xr c (xv s)))) Finset.univ x = Pc m ρ c x := by
  have h1 : (x 1).val < 64 := (x 1).isLt
  have h2 : (x 2).val < 128 := (x 2).isLt
  have hs : x 0 = s := Fin.ext hx
  by_cases hq : (x 2).val < 64
  · refine (write_unit_not_mem cc0_scratch1 (half1_inb s) (Val := Elt F) _ _ x (fun h => ?_)).trans ?_
    · have h' : 64 ≤ (x 2).val := (h 2).1; omega
    refine (write_unit_mem cc0_scratch1 (half0_inb s) (Val := Elt F) _ _ x (ix3 (0 : Fin 1) (x 1 : Fin 64) (⟨(x 2).val, hq⟩ : Fin 64)) (fun a => match a with
      | ⟨0, _⟩ => hx
      | ⟨1, _⟩ => (Nat.zero_add _).symm
      | ⟨2, _⟩ => (Nat.zero_add _).symm)).trans ?_
    unfold half0 Pc tile
    rw [hs]
    refine (shapeCast_up (a := 64) (b := 64) _ _ _).trans ?_
    refine extractStridedSlice_apply _ _ _ _ _ (fun a => match a with
      | ⟨0, _⟩ => by show (x 1).val + 64 * ((x 2).val / 64) = 0 + (x 1).val; omega
      | ⟨1, _⟩ => by show (x 2).val % 64 = 0 + (x 2).val; omega)
  · refine (write_unit_mem cc0_scratch1 (half1_inb s) (Val := Elt F) _ _ x (ix3 (0 : Fin 1) (x 1 : Fin 64) (⟨(x 2).val - 64, by omega⟩ : Fin 64)) (fun a => match a with
      | ⟨0, _⟩ => hx
      | ⟨1, _⟩ => (Nat.zero_add _).symm
      | ⟨2, _⟩ => by show (x 2).val = 64 + ((x 2).val - 64); omega)).trans ?_
    unfold half1 Pc tile
    rw [hs]
    refine (shapeCast_up (a := 64) (b := 64) _ _ _).trans ?_
    refine extractStridedSlice_apply _ _ _ _ _ (fun a => match a with
      | ⟨0, _⟩ => by show (x 1).val + 64 * ((x 2).val / 64) = 64 + (x 1).val; omega
      | ⟨1, _⟩ => by show (x 2).val % 64 = 0 + ((x 2).val - 64); omega)

/-- Both halves stored, slot 0 holds the device's own weights. -/
theorem own_write (c : Dev nD) (f : (cc0_scratch0 : Ref sig .tc).ty.Contents (Elt F)) (x : S32x2048x128.Idx) (hx : (x 0).val = 0) :
    (gM.access (Rect.unit (s := S32x2048x128) ![0, 0, 64] S1x2048x64.size inb_S32x2048x128_S1x2048x64_0_0_64) : View sig .tc _ _ _).write (Elt F)
      ((gM.access (Rect.unit (s := S32x2048x128) ![0, 0, 0] S1x2048x64.size inb_S32x2048x128_S1x2048x64_0_0_0) : View sig .tc _ _ _).write (Elt F) f
        (k0_pay5 (wM.view.readAt (Elt F) (Rect.unit (s := S4096x64) ![0, 0] S2048x64.size inb_S4096x64_S2048x64_0_0).toLoadRect (wstg m ρ c))) Finset.univ)
      (k0_pay6 (wM.view.readAt (Elt F) (Rect.unit (s := S4096x64) ![2048, 0] S2048x64.size inb_S4096x64_S2048x64_2048_0).toLoadRect (wstg m ρ c))) Finset.univ x
      = Gc m ρ c x := by
  have h1 : (x 1).val < 2048 := (x 1).isLt
  have h2 : (x 2).val < 128 := (x 2).isLt
  have hs : x 0 = (0 : Fin 32) := Fin.ext hx
  by_cases hq : (x 2).val < 64
  · refine (write_unit_not_mem cc0_scratch0 inb_S32x2048x128_S1x2048x64_0_0_64 (Val := Elt F) _ _ x (fun h => ?_)).trans ?_
    · have h' : 64 ≤ (x 2).val := (h 2).1; omega
    refine (write_unit_mem cc0_scratch0 inb_S32x2048x128_S1x2048x64_0_0_0 (Val := Elt F) _ _ x (ix3 (0 : Fin 1) (x 1 : Fin 2048) (⟨(x 2).val, hq⟩ : Fin 64)) (fun a => match a with
      | ⟨0, _⟩ => hx
      | ⟨1, _⟩ => (Nat.zero_add _).symm
      | ⟨2, _⟩ => (Nat.zero_add _).symm)).trans ?_
    unfold k0_pay5 Gc wpk
    dsimp only
    rw [hs, show xv 0 = 0 from rfl, xr_zero, shapeCast_same]
    refine (shapeCast_up (a := 2048) (b := 64) _ _ _).trans ?_
    exact read_unit cc0_stg1_0 inb_S4096x64_S2048x64_0_0 (Val := Elt F) _ _ _ (fun a => match a with
      | ⟨0, _⟩ => by show (x 1).val + 2048 * ((x 2).val / 64) = 0 + (x 1).val; omega
      | ⟨1, _⟩ => by show (x 2).val % 64 = 0 + (x 2).val; omega)
  · refine (write_unit_mem cc0_scratch0 inb_S32x2048x128_S1x2048x64_0_0_64 (Val := Elt F) _ _ x (ix3 (0 : Fin 1) (x 1 : Fin 2048) (⟨(x 2).val - 64, by omega⟩ : Fin 64)) (fun a => match a with
      | ⟨0, _⟩ => hx
      | ⟨1, _⟩ => (Nat.zero_add _).symm
      | ⟨2, _⟩ => by show (x 2).val = 64 + ((x 2).val - 64); omega)).trans ?_
    unfold k0_pay6 Gc wpk
    dsimp only
    rw [hs, show xv 0 = 0 from rfl, xr_zero, shapeCast_same]
    refine (shapeCast_up (a := 2048) (b := 64) _ _ _).trans ?_
    exact read_unit cc0_stg1_0 inb_S4096x64_S2048x64_2048_0 (Val := Elt F) _ _ _ (fun a => match a with
      | ⟨0, _⟩ => by show (x 1).val + 2048 * ((x 2).val / 64) = 2048 + (x 1).val; omega
      | ⟨1, _⟩ => by show (x 2).val % 64 = 0 + ((x 2).val - 64); omega)

/-! ## The output -/

/-- The output agrees with the result on the rows of the devices whose labels are done. -/
def OutOk (c : Dev nD) (D : Fin 32 → Bool) (f : (cc0_stg4_0 : Ref sig .tc).ty.Contents (Elt F)) : Prop :=
  ∀ i : S4096x64.Idx, D (xr c (rowDev i)) = true → f i = Oc m ρ c i

/-- The device's own block of rows, stored. -/
theorem out_own (c : Dev nD) (f : (cc0_stg4_0 : Ref sig .tc).ty.Contents (Elt F)) :
    OutOk m ρ c (fun l => l == 0) ((outM.access (Rect.unit (s := S4096x64) (k0_off1 c) S128x64.size (k0_off1_inb c)) : View sig .tc _ _ _).write (Elt F) f
      (blk m ρ c c) Finset.univ) := by
  intro i hi
  have hd : rowDev i = c := (xr_ne_zero c (rowDev i)).mp (by simpa using hi)
  have h0 : (i 0).val / 128 = c.val := congrArg Fin.val hd
  refine (write_unit_mem cc0_stg4_0 (k0_off1_inb c) (Val := Elt F) f _ i (ix2 (⟨(i 0).val % 128, by omega⟩ : Fin 128) (i 1 : Fin 64)) (fun a => ?_)).trans ?_
  · match a with
    | ⟨0, _⟩ =>
      show (i 0).val = k0_off1 c 0 + (i 0).val % 128
      rw [show k0_off1 c 0 = 128 * c.val from congrFun (off1_eq c) 0]; omega
    | ⟨1, _⟩ =>
      show (i 1).val = k0_off1 c 1 + (i 1).val
      rw [show k0_off1 c 1 = 0 from congrFun (off1_eq c) 1, Nat.zero_add]
  · unfold Oc; rw [if_pos hd]

/-- The rows of label `l`, stored from the arrived tile. -/
theorem out_drain (c : Dev nD) (l : Fin 32) (hl : l ≠ 0) (D : Fin 32 → Bool) (f : (cc0_stg4_0 : Ref sig .tc).ty.Contents (Elt F)) (hf : OutOk m ρ c D f) :
    OutOk m ρ c (Function.update D l true)
      ((outM.access (Rect.unit (s := S4096x64) (k0_off3 c (BitVec.ofNat 32 l.val)) S64x64.size (off3_inb c l)) : View sig .tc _ _ _).write (Elt F)
        ((outM.access (Rect.unit (s := S4096x64) (k0_off2 c (BitVec.ofNat 32 l.val)) S64x64.size (off2_inb c l)) : View sig .tc _ _ _).write (Elt F) f
          (out0 (rM.view.readAt (Elt F) (Rect.unit (s := S32x64x128) ![l.val, 0, 0] S1x64x128.size (tile_inb l)).toLoadRect (Rc m ρ c))) Finset.univ)
        (out1 (rM.view.readAt (Elt F) (Rect.unit (s := S32x64x128) ![l.val, 0, 0] S1x64x128.size (tile_inb l)).toLoadRect (Rc m ρ c))) Finset.univ) := by
  intro i hi
  have hq : (i 1).val < 64 := (i 1).isLt
  by_cases hd : xr c (rowDev i) = l
  · have hr : rowDev i = xr c l := by rw [← hd, xr_left]
    have h0 : (i 0).val / 128 = (xr c l).val := congrArg Fin.val hr
    have hne : rowDev i ≠ c := fun e => hl (by rw [← hd, (xr_ne_zero c (rowDev i)).mpr e])
    by_cases hp : (i 0).val % 128 < 64
    · refine (write_unit_not_mem cc0_stg4_0 (off3_inb c l) (Val := Elt F) _ _ i (fun h => ?_)).trans ?_
      · have h' := (h 0).1
        have e0 : k0_off3 c (BitVec.ofNat 32 l.val) 0 = 128 * (xr c l).val + 64 := congrFun (off3_eq c l) 0
        have h'' : 128 * (xr c l).val + 64 ≤ (i 0).val := e0 ▸ h'
        omega
      refine (write_unit_mem cc0_stg4_0 (off2_inb c l) (Val := Elt F) _ _ i (ix2 (⟨(i 0).val % 128, hp⟩ : Fin 64) (i 1 : Fin 64)) (fun a => ?_)).trans ?_
      · match a with
        | ⟨0, _⟩ =>
          show (i 0).val = k0_off2 c (BitVec.ofNat 32 l.val) 0 + (i 0).val % 128
          rw [show k0_off2 c (BitVec.ofNat 32 l.val) 0 = 128 * (xr c l).val from congrFun (off2_eq c l) 0]; omega
        | ⟨1, _⟩ =>
          show (i 1).val = k0_off2 c (BitVec.ofNat 32 l.val) 1 + (i 1).val
          rw [show k0_off2 c (BitVec.ofNat 32 l.val) 1 = 0 from congrFun (off2_eq c l) 1, Nat.zero_add]
      unfold Oc; rw [if_neg hne, hr]
      unfold out0 blkE
      refine congrArg (fun z => FloatOps.extf (F := F) FTy.f32 bitsLt_bf16_f32 z) ?_
      refine (extractStridedSlice_apply _ _ _ _ (ix2 (⟨(i 0).val % 128, hp⟩ : Fin 64) (⟨(i 1).val, by omega⟩ : Fin 128)) (fun a => match a with
        | ⟨0, _⟩ => (Nat.zero_add _).symm
        | ⟨1, _⟩ => (Nat.zero_add _).symm)).trans ?_
      refine (shapeCast_down (a := 64) (b := 128) _ _ _).trans ?_
      refine (read_unit cc0_scratch2 (tile_inb l) (Val := Elt F) _ (ix3 l (⟨(i 0).val % 128, hp⟩ : Fin 64) (⟨(i 1).val, by omega⟩ : Fin 128)) _ (fun a => match a with
        | ⟨0, _⟩ => rfl
        | ⟨1, _⟩ => (Nat.zero_add _).symm
        | ⟨2, _⟩ => (Nat.zero_add _).symm)).trans ?_
      unfold Rc tile
      refine congrArg (blk16 m ρ (xr c l) c) (funext fun a => match a with
        | ⟨0, _⟩ => Fin.ext (by show (i 0).val % 128 + 64 * ((i 1).val / 64) = (i 0).val % 128; omega)
        | ⟨1, _⟩ => Fin.ext (by show (i 1).val % 64 = (i 1).val; omega))
    · refine (write_unit_mem cc0_stg4_0 (off3_inb c l) (Val := Elt F) _ _ i (ix2 (⟨(i 0).val % 128 - 64, by omega⟩ : Fin 64) (i 1 : Fin 64)) (fun a => ?_)).trans ?_
      · match a with
        | ⟨0, _⟩ =>
          show (i 0).val = k0_off3 c (BitVec.ofNat 32 l.val) 0 + ((i 0).val % 128 - 64)
          rw [show k0_off3 c (BitVec.ofNat 32 l.val) 0 = 128 * (xr c l).val + 64 from congrFun (off3_eq c l) 0]; omega
        | ⟨1, _⟩ =>
          show (i 1).val = k0_off3 c (BitVec.ofNat 32 l.val) 1 + (i 1).val
          rw [show k0_off3 c (BitVec.ofNat 32 l.val) 1 = 0 from congrFun (off3_eq c l) 1, Nat.zero_add]
      unfold Oc; rw [if_neg hne, hr]
      unfold out1 blkE
      refine congrArg (fun z => FloatOps.extf (F := F) FTy.f32 bitsLt_bf16_f32 z) ?_
      refine (extractStridedSlice_apply _ _ _ _ (ix2 (⟨(i 0).val % 128 - 64, by omega⟩ : Fin 64) (⟨64 + (i 1).val, by omega⟩ : Fin 128)) (fun a => match a with
        | ⟨0, _⟩ => (Nat.zero_add _).symm
        | ⟨1, _⟩ => rfl)).trans ?_
      refine (shapeCast_down (a := 64) (b := 128) _ _ _).trans ?_
      refine (read_unit cc0_scratch2 (tile_inb l) (Val := Elt F) _ (ix3 l (⟨(i 0).val % 128 - 64, by omega⟩ : Fin 64) (⟨64 + (i 1).val, by omega⟩ : Fin 128)) _ (fun a => match a with
        | ⟨0, _⟩ => rfl
        | ⟨1, _⟩ => (Nat.zero_add _).symm
        | ⟨2, _⟩ => (Nat.zero_add _).symm)).trans ?_
      unfold Rc tile
      refine congrArg (blk16 m ρ (xr c l) c) (funext fun a => match a with
        | ⟨0, _⟩ => Fin.ext (by show (i 0).val % 128 - 64 + 64 * ((64 + (i 1).val) / 64) = (i 0).val % 128; omega)
        | ⟨1, _⟩ => Fin.ext (by show (64 + (i 1).val) % 64 = (i 1).val; omega))
  · rw [Function.update_of_ne hd] at hi
    have h0 : (i 0).val / 128 ≠ (xr c l).val := fun e => hd (by
      have : rowDev i = xr c l := Fin.ext e
      rw [this, xr_left])
    refine (write_unit_not_mem cc0_stg4_0 (off3_inb c l) (Val := Elt F) _ _ i (fun h => ?_)).trans
      ((write_unit_not_mem cc0_stg4_0 (off2_inb c l) (Val := Elt F) _ _ i (fun h => ?_)).trans (hf i hi))
    · have h' := h 0
      rw [show k0_off3 c (BitVec.ofNat 32 l.val) 0 = 128 * (xr c l).val + 64 from congrFun (off3_eq c l) 0] at h'
      have h'' : 128 * (xr c l).val + 64 ≤ (i 0).val ∧ (i 0).val < 128 * (xr c l).val + 64 + 64 := h'
      omega
    · have h' := h 0
      rw [show k0_off2 c (BitVec.ofNat 32 l.val) 0 = 128 * (xr c l).val from congrFun (off2_eq c l) 0] at h'
      have h'' : 128 * (xr c l).val ≤ (i 0).val ∧ (i 0).val < 128 * (xr c l).val + 64 := h'
      omega

/-- All labels done, the output is the result. -/
theorem out_all (c : Dev nD) (f : (cc0_stg4_0 : Ref sig .tc).ty.Contents (Elt F)) (D : Fin 32 → Bool) (hD : ∀ l, D l = true) (hf : OutOk m ρ c D f) : f = Oc m ρ c :=
  funext fun i => hf i (hD _)

end Cert.KernelIdeal.K
-- ==== Proof.State.lean ====
module

public import proofs.«01_k».proof.Proof.Pure
public import Idealize.ShloMosaic.Lib.Tactic
public import Idealize.ShloMosaic.Lib.SparseCore.Launch

@[expose] public section

/-! The state the body moves through: which flights are unsent, under way or gone, which have arrived,
which result tiles are unsent, under way or gone, which are drained; and what device `c` owns in it. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The state machine -/

/-- For a flight or a tile: 0 unsent, 1 under way, 2 gone. -/
structure St where
  snd : Fin 11 → Fin 3
  arr : Fin 11 → Bool
  blk : Fin 32 → Fin 3
  drn : Fin 32 → Bool

/-- Slot `t` is filled. -/
abbrev arrd (s : St) (t : Fin 32) : Prop := t = 0 ∨ ∃ i, s.arr i = true ∧ t ∈ slD i
/-- Share `k` of slot `t` is with a flight under way. -/
abbrev away (s : St) (x : Fin 32 × Fin 8) : Prop := ∃ i, s.snd i = 1 ∧ x.1 ∈ slS i ∧ x.2.val = (frd i).val

/-- The slots that are filled. -/
def arrS (s : St) : Finset (Fin 32) := Finset.univ.filter fun t => arrd s t
/-- The shares of filled slots that no copy in flight holds. -/
def availS (s : St) : Finset (Fin 32 × Fin 8) := Finset.univ.filter fun x => arrd s x.1 ∧ ¬ away s x
/-- The flights, and the tiles, still to be sent. -/
def unsentF (s : St) : Finset (Fin 11) := Finset.univ.filter fun i => s.snd i = 0
/-- The tiles not yet sent. -/
def unsentT (s : St) : Finset (Fin 32) := Finset.univ.filter fun l => s.blk l = 0

/-- The share of its slots a flight takes with it. -/
def kf (i : Fin 11) : Fin 8 := ⟨(frd i).val, by omega⟩

/-- What a step does to the state. -/
def next (s : St) : Op → St
  | .start i => { s with snd := Function.update s.snd i 1 }
  | .arrive i => { s with arr := Function.update s.arr i true }
  | .block t => { s with blk := Function.update s.blk (xv t) 1 }
  | .drain l => { s with drn := Function.update s.drn l true }
  | .leftRd i => { s with snd := Function.update s.snd i 2 }
  | .leftRes l => { s with blk := Function.update s.blk l 2 }

/-- Nothing is left to send. -/
abbrev allSent (s : St) : Prop := (∀ i, s.snd i ≠ 0) ∧ ∀ l, s.blk l ≠ 0

/-- When a step may run. -/
def ok (s : St) : Op → Prop
  | .start i => s.snd i = 0 ∧ ∀ t ∈ slS i, arrd s t
  | .arrive i => s.arr i = false ∧ (∀ j, s.snd j = 1 → Disjoint (slS j) (slD i)) ∧ ∀ j, s.snd j = 0 → i.val < j.val
  | .block t => s.blk (xv t) = 0 ∧ arrd s t ∧ xv t ≠ 0
  | .drain l => s.drn l = false ∧ l ≠ 0 ∧ allSent s
  | .leftRd i => s.snd i = 1 ∧ (∀ t ∈ slS i, arrd s t) ∧ allSent s
  | .leftRes l => s.blk l = 1 ∧ l ≠ 0 ∧ allSent s

instance decOk (s : St) (o : Op) : Decidable (ok s o) := by cases o <;> unfold ok <;> infer_instance

/-- Every step of a list may run. -/
def okAll : St → List Op → Bool
  | _, [] => true
  | s, o :: l => decide (ok s o) && okAll (next s o) l
/-- What a list of steps does. -/
def nextAll : St → List Op → St
  | s, [] => s
  | s, o :: l => nextAll (next s o) l

/-- Before the first step: slot 0 filled, the device's own label done. -/
def st0 : St := ⟨fun _ => 0, fun _ => false, fun l => if l = 0 then 2 else 0, fun l => l == 0⟩

set_option maxRecDepth 10000 in
/-- Every step of the schedule is allowed where it stands. -/
theorem program_ok : okAll st0 program = true := by decide +kernel
set_option maxRecDepth 10000 in
/-- At the end every flight and every tile has left and arrived. -/
theorem program_end : (∀ i, (nextAll st0 program).snd i = 2) ∧ (∀ i, (nextAll st0 program).arr i = true) ∧ (∀ l, (nextAll st0 program).blk l = 2)
    ∧ ∀ l, (nextAll st0 program).drn l = true := by decide +kernel

/-! ## How the sets move -/

/-- Starting a flight takes it off the unsent ones. -/
theorem unsentF_start (s : St) (i : Fin 11) (v : Fin 3) (hv : v ≠ 0) : unsentF { s with snd := Function.update s.snd i v } = (unsentF s).erase i := by
  ext j
  simp only [unsentF, Finset.mem_filter, Finset.mem_univ, _root_.true_and, Finset.mem_erase]
  by_cases h : j = i
  · subst h; simp [hv]
  · simp [h]
/-- Sending a tile takes it off the unsent ones. -/
theorem unsentT_block (s : St) (l : Fin 32) (v : Fin 3) (hv : v ≠ 0) : unsentT { s with blk := Function.update s.blk l v } = (unsentT s).erase l := by
  ext j
  simp only [unsentT, Finset.mem_filter, Finset.mem_univ, _root_.true_and, Finset.mem_erase]
  by_cases h : j = l
  · subst h; simp [hv]
  · simp [h]
/-- A flight is unsent in state 0. -/
theorem mem_unsentF {s : St} {i : Fin 11} : i ∈ unsentF s ↔ s.snd i = 0 := by simp [unsentF]
/-- A tile is unsent in state 0. -/
theorem mem_unsentT {s : St} {l : Fin 32} : l ∈ unsentT s ↔ s.blk l = 0 := by simp [unsentT]
/-- When all is sent, no flight is unsent, -/
theorem unsentF_none {s : St} (h : allSent s) : unsentF s = ∅ := Finset.filter_eq_empty_iff.mpr fun i _ => h.1 i
/-- and no tile is. -/
theorem unsentT_none {s : St} (h : allSent s) : unsentT s = ∅ := Finset.filter_eq_empty_iff.mpr fun l _ => h.2 l

/-- While flight `i` is not under way the device holds the flight's share of its slots beside what it holds otherwise. -/
theorem avail_fly (s : St) (i : Fin 11) (v : Fin 3) (hv : v ≠ 1) (hT : ∀ t ∈ slS i, arrd s t) :
    availS { s with snd := Function.update s.snd i v } = availS { s with snd := Function.update s.snd i 1 } ∪ slS i ×ˢ {kf i}
      ∧ Disjoint (availS { s with snd := Function.update s.snd i 1 }) (slS i ×ˢ {kf i}) := by
  constructor
  · ext ⟨t, k⟩
    simp only [availS, Finset.mem_filter, Finset.mem_univ, _root_.true_and, Finset.mem_union, Finset.mem_product, Finset.mem_singleton]
    constructor
    · rintro ⟨ha, hw⟩
      by_cases hm : t ∈ slS i ∧ k = kf i
      · exact .inr hm
      · refine .inl ⟨ha, ?_⟩
        rintro ⟨j, hj, hjt, hjk⟩
        by_cases hji : j = i
        · subst hji; exact hm ⟨hjt, Fin.ext hjk⟩
        · exact hw ⟨j, (Function.update_of_ne hji v s.snd).trans ((Function.update_of_ne hji 1 s.snd).symm.trans hj), hjt, hjk⟩
    · rintro (⟨ha, hw⟩ | ⟨ht, hk⟩)
      · refine ⟨ha, ?_⟩
        rintro ⟨j, hj, hjt, hjk⟩
        by_cases hji : j = i
        · subst hji; exact hv ((Function.update_self j v s.snd).symm.trans hj)
        · exact hw ⟨j, (Function.update_of_ne hji 1 s.snd).trans ((Function.update_of_ne hji v s.snd).symm.trans hj), hjt, hjk⟩
      · refine ⟨hT t ht, ?_⟩
        rintro ⟨j, hj, hjt, hjk⟩
        by_cases hji : j = i
        · subst hji; exact hv ((Function.update_self j v s.snd).symm.trans hj)
        · have hfr : frd j = frd i := Fin.ext (by rw [← hjk]; exact congrArg Fin.val hk)
          exact Finset.disjoint_left.mp (slS_disj j i hji hfr) hjt ht
  · refine Finset.disjoint_left.mpr ?_
    rintro ⟨t, k⟩ h1 h2
    simp only [availS, Finset.mem_filter, Finset.mem_univ, _root_.true_and] at h1
    simp only [Finset.mem_product, Finset.mem_singleton] at h2
    exact h1.2 ⟨i, Function.update_self _ _ _, h2.1, congrArg Fin.val h2.2⟩

/-- An arrival adds all the shares of its slots. -/
theorem avail_arrive (s : St) (i : Fin 11) (h0 : s.arr i = false) (hA : ∀ j, s.snd j = 1 → Disjoint (slS j) (slD i)) :
    availS { s with arr := Function.update s.arr i true } = availS s ∪ slD i ×ˢ Finset.univ ∧ Disjoint (availS s) (slD i ×ˢ Finset.univ) := by
  constructor
  · ext ⟨t, k⟩
    simp only [availS, Finset.mem_filter, Finset.mem_univ, _root_.true_and, Finset.mem_union, Finset.mem_product, _root_.and_true]
    constructor
    · rintro ⟨ha, hw⟩
      rcases ha with ha | ⟨j, hj, hjt⟩
      · exact .inl ⟨.inl ha, hw⟩
      · by_cases hji : j = i
        · subst hji; exact .inr hjt
        · exact .inl ⟨.inr ⟨j, (Function.update_of_ne hji true s.arr).symm.trans hj, hjt⟩, hw⟩
    · rintro (⟨ha, hw⟩ | ht)
      · refine ⟨ha.imp id ?_, hw⟩
        rintro ⟨j, hj, hjt⟩
        refine ⟨j, ?_, hjt⟩
        by_cases hji : j = i
        · subst hji; exact Function.update_self _ _ _
        · exact (Function.update_of_ne hji true s.arr).trans hj
      · refine ⟨.inr ⟨i, Function.update_self _ _ _, ht⟩, ?_⟩
        rintro ⟨j, hj, hjt, -⟩
        exact Finset.disjoint_left.mp (hA j hj) hjt ht
  · refine Finset.disjoint_left.mpr ?_
    rintro ⟨t, k⟩ h1 h2
    simp only [availS, Finset.mem_filter, Finset.mem_univ, _root_.true_and] at h1
    simp only [Finset.mem_product, Finset.mem_univ, _root_.and_true] at h2
    rcases h1.1 with ha | ⟨j, hj, hjt⟩
    · exact slD_zero i (ha ▸ h2)
    · by_cases hji : j = i
      · subst hji; rw [h0] at hj; exact Bool.false_ne_true hj
      · exact Finset.disjoint_left.mp (slD_disj j i hji) hjt h2

/-- A flight's arrival fills at most the slots of its destination. -/
theorem arrS_arrive (s : St) (i : Fin 11) : arrS { s with arr := Function.update s.arr i true } ⊆ arrS s ∪ slD i := by
  intro t ht
  simp only [arrS, Finset.mem_filter, Finset.mem_univ, _root_.true_and] at ht
  rw [Finset.mem_union]
  rcases ht with ht | ⟨j, hj, hjt⟩
  · exact .inl (by simp [arrS, arrd, ht])
  · by_cases hji : j = i
    · subst hji; exact .inr hjt
    · exact .inl (Finset.mem_filter.mpr ⟨Finset.mem_univ _, .inr ⟨j, (Function.update_of_ne hji true s.arr).symm.trans hj, hjt⟩⟩)

/-! ## Slots, shares and flights -/

/-- A run of slots owned together is owned slot by slot. -/
theorem pts_slots (c : Dev nD) (S : Finset (Fin 32)) (I : Finset S32x2048x128.Idx) (hI : I = S.biUnion slotSet) (q : PosShare TreeShare)
    (f : Buf (Elt F) ((c : Thread nD τ).loc cc0_scratch0)) :
    (((c : Thread nD τ).loc cc0_scratch0 ↦[I]{q} f) : sProp 𝕄) = bigSep S fun t => (c : Thread nD τ).loc cc0_scratch0 ↦[slotSet t]{q} f := by
  subst hI
  exact pointsTo_biUnion (ℓ := (c : Thread nD τ).loc cc0_scratch0) S slotSet (fun t _ t' _ h => slotSet_disj t t' h)

/-- A slot owned is its eight shares. -/
theorem slot_shares (c : Dev nD) (t : Fin 32) (f : Buf (Elt F) ((c : Thread nD τ).loc cc0_scratch0)) :
    (((c : Thread nD τ).loc cc0_scratch0 ↦[slotSet t]{fullShare} f) : sProp 𝕄)
      = bigSep Finset.univ fun k : Fin 8 => (c : Thread nD τ).loc cc0_scratch0 ↦[slotSet t]{ShareLeaves.leaf 3 fullShare k} f :=
  ShareLeaves.pointsTo_leaves (ℓ := (c : Thread nD τ).loc cc0_scratch0) (slotSet t) f 3 fullShare

/-- A flight's source is its share of each of its slots. -/
theorem srcPts_eq (c : Dev nD) (i : Fin 11) : (srcPts m ρ c i : sProp 𝕄) = bigSep (slS i ×ˢ {kf i}) fun x => slot1 m ρ c x.1 x.2 := by
  rw [SparseCore.bigSep_product]
  simp only [bigSep_singleton]
  unfold srcPts
  exact pts_slots c (slS i) _ (src_set i) _ (Gc m ρ c)

/-- Slots filled are all shares of each. -/
theorem filled_eq (c : Dev nD) (S : Finset (Fin 32)) (I : Finset S32x2048x128.Idx) (hI : I = S.biUnion slotSet) :
    (((c : Thread nD τ).loc cc0_scratch0 ↦[I]{fullShare} Gc m ρ c) : sProp 𝕄) = bigSep (S ×ˢ Finset.univ) fun x => slot1 m ρ c x.1 x.2 := by
  rw [SparseCore.bigSep_product]
  refine (pts_slots c S I hI fullShare (Gc m ρ c)).trans ?_
  exact bigSep_congr fun t _ => slot_shares c t (Gc m ρ c)

/-- A flight's filled destination is all shares of each of its slots. -/
theorem dstPts_eq (c : Dev nD) (i : Fin 11) : (dstPts c i (Gc m ρ c) : sProp 𝕄) = bigSep (slD i ×ˢ Finset.univ) fun x => slot1 m ρ c x.1 x.2 := by
  unfold dstPts
  exact filled_eq m ρ c (slD i) _ (dst_set i)

/-! ## What the device owns -/

/-- The shares of the gather buffer that are at hand. -/
def slots (c : Dev nD) (s : St) : sProp 𝕄 := bigSep (availS s) fun x => slot1 m ρ c x.1 x.2
/-- Word that the owner of each filled slot has entered. -/
def Ents (c : Dev nD) (s : St) : sProp 𝕄 := bigSep (arrS s) fun t => Entered (xr c (xv t))
instance Ents_persistent (c : Dev nD) (s : St) : BI.Persistent (Ents (F := F) c s) := by unfold Ents; infer_instance

/-- A flight unsent, under way, gone. -/
def Flt (c : Dev nD) (i : Fin 11) (v : Fin 3) : sProp 𝕄 :=
  if v = 0 then iprop(atPos ER (sLCell c i) 0 ∅ 0 ∗ dutyTok ER (sLCell c i) 0 0 ∗ dutyTok ER (sRCell (xr c (rmask (frd i))) i) 0 0
    ∗ ∃ f, dstPts (xr c (rmask (frd i))) i f)
  else if v = 1 then iprop(atPos ER (sLCell c i) 0 ∅ 0 ∗ cred (tallyAt (sLCell c i) () (NF i)))
  else semVal (sLCell c i) 0

/-- An arrival awaited, had. -/
def Arr (c : Dev nD) (i : Fin 11) (v : Bool) : sProp 𝕄 :=
  if v = true then semVal (sRCell c i) 0 else iprop(atPos ER (sRCell c i) 0 ∅ 0 ∗ cred (tallyAt (sRCell c i) () (NF i)))

/-- A result tile unsent, under way, gone. -/
def Til (c : Dev nD) (l : Fin 32) (v : Fin 3) : sProp 𝕄 :=
  if v = 0 then iprop(atPos ER (rLCell c l) 0 ∅ 0 ∗ dutyTok ER (rLCell c l) 0 0 ∗ dutyTok ER (rRCell (xr c l) l) 0 0
    ∗ writeTok ES (xr c l, l) 1 ∗ ∃ f, packPts c (sv l) f)
  else if v = 1 then iprop(atPos ER (rLCell c l) 0 ∅ 0 ∗ cred (tallyAt (rLCell c l) () NT))
  else iprop(semVal (rLCell c l) 0 ∗ ∃ f, packPts c (sv l) f)

/-- A result tile awaited, had. -/
def Drn (c : Dev nD) (l : Fin 32) (v : Bool) : sProp 𝕄 :=
  if v = true then iprop(semVal (rRCell c l) 0 ∗ ∃ f, stagePts c l f) else iprop(atPos ER (rRCell c l) 0 ∅ 0 ∗ cred (tallyAt (rRCell c l) () NT))

/-- The output buffer, done as far as the labels `D`. -/
def Out (c : Dev nD) (D : Fin 32 → Bool) : sProp 𝕄 :=
  iprop(∃ f : Buf (Elt F) ((c : Thread nD τ).loc cc0_stg4_0), ⌜OutOk m ρ c D f⌝ ∗ ((c : Thread nD τ).loc cc0_stg4_0 ↦{fullShare} f))

/-- Everything device `c` owns in state `s`. -/
def Inv (c : Dev nD) (s : St) : sProp 𝕄 :=
  iprop((∃ W, owes (c : Thread nD τ) (owe c ∅ (unsentF s) (unsentT s)) W) ∗ slots m ρ c s
    ∗ (bigSep Finset.univ fun i => Flt c i (s.snd i)) ∗ (bigSep Finset.univ fun i => Arr c i (s.arr i))
    ∗ (bigSep Finset.univ fun l => Til c l (s.blk l)) ∗ (bigSep Finset.univ fun l => Drn c l (s.drn l))
    ∗ Ents c s ∗ Out m ρ c s.drn)

/-- Device `o`'s result tile of label `l`, with any contents: what waits for its sender. -/
def tileSlot (k : Dev nD × Fin 32) : sProp 𝕄 := iprop(∃ f, stagePts k.1 k.2 f)
instance tileSlot_storable (k : Dev nD × Fin 32) : BI.Storable (upEmb : UEmb _ 𝕄) (tileSlot (F := F) k) := by unfold tileSlot; infer_instance

/-- The invariants of all cells and of all result tiles, that every cell is at its first round, and the levels. -/
def records (K : Dev nD × Fin 87 → ℕ) (KS : Dev nD × Fin 32 → ℕ) : sProp 𝕄 :=
  iprop((bigSep Finset.univ fun ck => cellInv ER (Rd m ρ) (K ck) (kcell ck)) ∗ (bigSep Finset.univ fun ck : Dev nD × Fin 87 => reached ER (kcell ck) 0)
    ∗ (bigSep Finset.univ fun k => slotInv ES (KS k) k (tileSlot k)) ∗ levAts L lv)

instance records_persistent (K : Dev nD × Fin 87 → ℕ) (KS : Dev nD × Fin 32 → ℕ) : BI.Persistent (records (F := F) m ρ K KS) := by unfold records; infer_instance

section Records
variable (K : Dev nD × Fin 87 → ℕ) (KS : Dev nD × Fin 32 → ℕ)

/-- A semaphore's invariant, out of the records. -/
theorem inv_at (c : Dev nD) (k : Fin 87) (sm : SemLoc sig) (h : csem k = sm) :
    records (F := F) m ρ K KS ⊢ cellInv ER (Rd m ρ) (K (c, k)) ((c : Thread nD τ), sm) := by
  subst h; unfold records
  have h : (bigSep Finset.univ fun ck : Dev nD × Fin 87 => (cellInv ER (Rd m ρ) (K ck) (kcell ck) : sProp 𝕄)) ⊢ cellInv ER (Rd m ρ) (K (c, k)) (kcell (c, k)) :=
    bigSep_elim (Finset.mem_univ _)
  iintro ⟨H, -⟩
  iapply h $$ H
/-- That its first round is reached, out of the records. -/
theorem reached_at (c : Dev nD) (k : Fin 87) (sm : SemLoc sig) (h : csem k = sm) :
    records (F := F) m ρ K KS ⊢ reached ER ((c : Thread nD τ), sm) 0 := by
  subst h; unfold records
  have h : (bigSep Finset.univ fun ck : Dev nD × Fin 87 => (reached ER (kcell ck) 0 : sProp 𝕄)) ⊢ reached ER (kcell (c, k)) 0 :=
    bigSep_elim (Finset.mem_univ _)
  iintro ⟨-, H, -⟩
  iapply h $$ H
/-- An exclusive slot's invariant, out of the records. -/
theorem slotInv_at (k : Dev nD × Fin 32) : records (F := F) m ρ K KS ⊢ slotInv ES (KS k) k (tileSlot k) := by
  unfold records
  have h : (bigSep Finset.univ fun k : Dev nD × Fin 32 => (slotInv ES (KS k) k (tileSlot k) : sProp 𝕄)) ⊢ slotInv ES (KS k) k (tileSlot k) :=
    bigSep_elim (Finset.mem_univ _)
  iintro ⟨-, -, H, -⟩
  iapply h $$ H
/-- The levels, out of the records. -/
theorem levs_at : records (F := F) m ρ K KS ⊢ levAts L lv := by
  unfold records
  iintro ⟨-, -, -, H⟩
  iexact H

end Records

end Cert.KernelIdeal.K
-- ==== Proof.Steps.lean ====
module

public import proofs.«01_k».proof.Proof.State

@[expose] public section

/-! Each step of the program, run from what device `c` owns before it to what it owns after. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 87 → ℕ) (KS : Dev nD × Fin 32 → ℕ)

/-- No loop needs a variant. -/
abbrev 𝒱₀ : Variants := Variants.none

/-! ## The two kinds of transfer -/

/-- Flight `i`, sent by device `c` to `n`, its partner. -/
theorem wp_send_fly (c n : Dev nD) (i : Fin 11) (hn : n = xr c (rmask (frd i)))
    {hsc : (dstM i : Memref sig (Dev.tc n : Thread nD τ).2.kind .vmem (fsh i) .fp8e4m3).view.ref.isScScratch = false}
    {hsrc : (srcM i).view.WordExact} {hdst : (dstM i).view.WordExact}
    {hsem : DmaTarget.Typed .vmem (.dma (rdRecv i)) (.remote (Dev.tc n : Thread nD τ) (dstM i) (.dma (rdSend i)) hsc)}
    {α : Type} {Q : α → sProp 𝕄} {k : PUnit → Prog (TpuEff nD τ sig (Elt F) Λ₀ .tc) α}
    (fd : Buf (Elt F) ((dstM i).view.loc (xr c (rmask (frd i)) : Thread nD τ))) {O₀ : CellTallies nD τ sig Unit} (O : CellTallies nD τ sig Unit)
    (hO : O₀ = O + tallyAt (sRCell (xr c (rmask (frd i))) i) () (NF i)) (W : Waits sig Unit) :
    iprop(records m ρ K KS ∗ srcPts m ρ c i ∗ (dstPts (xr c (rmask (frd i))) i fd ∗ ents (xr c (rmask (frd i))) i)
        ∗ owes (c : Thread nD τ) O₀ W ∗ dutyTok ER (sLCell c i) 0 0 ∗ dutyTok ER (sRCell (xr c (rmask (frd i))) i) 0 0)
      ⊢ iprop(((cred (tallyAt (sLCell c i) () (NF i)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i) (.remote (Dev.tc n : Thread nD τ) (dstM i) (.dma (rdSend i)) hsc) (.dma (rdRecv i)) hsrc hdst hsem) k) Q) := by
  subst hn
  iintro ⟨#HR, Hsrc, Hdst, HO, Ht1, Ht2⟩
  ihave #HI1 := (inv_at m ρ K KS c (kL i) _ (csem_kL i)) $$ HR
  ihave #HI2 := (inv_at m ρ K KS (xr c (rmask (frd i))) (kR i) _ (csem_kR i)) $$ HR
  ihave #Hr1 := (reached_at m ρ K KS c (kL i) _ (csem_kL i)) $$ HR
  ihave #Hr2 := (reached_at m ρ K KS (xr c (rmask (frd i))) (kR i) _ (csem_kR i)) $$ HR
  unfold srcPts dstPts
  iapply (Rounds.wp_send_pointsTo_with 𝒱₀ ER (Rd m ρ) (c : Thread nD τ) none (κ₁ := K (c, kL i)) (κ₂ := K (xr c (rmask (frd i)), kR i))
    (r₁ := 0) (r₂ := 0) (d₁ := 0) (d₂ := 0) (fd := fd) (F := ents (xr c (rmask (frd i))) i)
    (by rw [duties_sL]; exact Finset.mem_singleton_self _) (by rw [duties_sR]; exact Finset.mem_singleton_self _)
    () () (NF i) rfl (amount_sL m ρ c i 0 0) (amount_sR m ρ (xr c (rmask (frd i))) i 0 0) O hO (W := W)
    (by rw [payload_sL]; exact BI.Entails.refl _)
    (by
      rw [payload_sR]; unfold flyPay dstPts
      exact sep_mono_left (Entails.of_eq (pointsTo_congr fun x hx => fly_write m ρ c i fd x hx))))
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

/-- The result tile of slot `t`, sent by device `c` to `n`, the slot's owner. -/
theorem wp_send_tile (c n : Dev nD) (t : Fin 32) (ht : xv t ≠ 0) (hn : n = xr c (xv t))
    {hsc : (stageM (xv t) : Memref sig (Dev.tc n : Thread nD τ).2.kind .vmem S64x128 .bf16).view.ref.isScScratch = false}
    {hsrc : (packM t).view.WordExact} {hdst : (stageM (xv t)).view.WordExact}
    {hsem : DmaTarget.Typed .vmem (.dma (resRecv (xv t))) (.remote (Dev.tc n : Thread nD τ) (stageM (xv t)) (.dma (resSend (xv t))) hsc)}
    {α : Type} {Q : α → sProp 𝕄} {k : PUnit → Prog (TpuEff nD τ sig (Elt F) Λ₀ .tc) α}
    (fd : Buf (Elt F) ((stageM (xv t)).view.loc (xr c (xv t) : Thread nD τ))) {O₀ : CellTallies nD τ sig Unit} (O : CellTallies nD τ sig Unit)
    (hO : O₀ = O + tallyAt (rRCell (xr c (xv t)) (xv t)) () NT) (W : Waits sig Unit) :
    iprop(records m ρ K KS ∗ packPts c t (Pc m ρ c) ∗ stagePts (xr c (xv t)) (xv t) fd
        ∗ owes (c : Thread nD τ) O₀ W ∗ dutyTok ER (rLCell c (xv t)) 0 0 ∗ dutyTok ER (rRCell (xr c (xv t)) (xv t)) 0 0)
      ⊢ iprop(((cred (tallyAt (rLCell c (xv t)) () NT) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (packM t) (.remote (Dev.tc n : Thread nD τ) (stageM (xv t)) (.dma (resSend (xv t))) hsc) (.dma (resRecv (xv t))) hsrc hdst hsem) k) Q) := by
  subst hn
  iintro ⟨#HR, Hsrc, Hdst, HO, Ht1, Ht2⟩
  ihave #HI1 := (inv_at m ρ K KS c (kT (xv t)) _ (csem_kT (xv t))) $$ HR
  ihave #HI2 := (inv_at m ρ K KS (xr c (xv t)) (kU (xv t)) _ (csem_kU (xv t))) $$ HR
  ihave #Hr1 := (reached_at m ρ K KS c (kT (xv t)) _ (csem_kT (xv t))) $$ HR
  ihave #Hr2 := (reached_at m ρ K KS (xr c (xv t)) (kU (xv t)) _ (csem_kU (xv t))) $$ HR
  unfold packPts stagePts
  iapply (Rounds.wp_send_pointsTo 𝒱₀ ER (Rd m ρ) (c : Thread nD τ) none (κ₁ := K (c, kT (xv t))) (κ₂ := K (xr c (xv t), kU (xv t)))
    (r₁ := 0) (r₂ := 0) (d₁ := 0) (d₂ := 0) (fd := fd)
    (by rw [duties_rL m ρ c ht]; exact Finset.mem_singleton_self _) (by rw [duties_rR m ρ _ ht]; exact Finset.mem_singleton_self _)
    () () NT rfl (amount_rL m ρ c (xv t) 0 0) (amount_rR m ρ (xr c (xv t)) (xv t) 0 0) O hO (W := W)
    (by rw [payload_rL, sv_xv]; exact BI.Entails.refl _)
    (by
      rw [payload_rR]; unfold stagePts
      exact Entails.of_eq (pointsTo_congr fun x hx => tile_write m ρ c t fd x hx)))
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

/-! ## The waits -/

set_option maxRecDepth 20000 in
/-- A wait for the one round of a cell: what the cell holds, and its counter back at zero. -/
theorem wp_wait_one (c : Dev nD) (sm : SemLoc sig) (kk : Fin 87) (hkk : csem kk = sm) (N : ℕ)
    {w : TpuEff nD τ sig (Elt F) Λ₀ .tc PUnit} (hw : ∀ Kt : PUnit → sProp 𝕄, wpE (defs₀ (F := F)) 𝒱₀ (c : Thread nD τ) none Set.univ w Kt = waitSpec (c : Thread nD τ) Set.univ sm N Kt)
    (P : sProp 𝕄) (hd : (Rd (F := F) m ρ).duties ((c : Thread nD τ), sm) 0 = {0}) (ha : (Rd (F := F) m ρ).amount ((c : Thread nD τ), sm) 0 0 = N)
    (hp : (Rd (F := F) m ρ).payload ((c : Thread nD τ), sm) 0 0 = P)
    {R : Finset (Fin 11)} {S : Finset (Fin 32)} (n : ℕ) (hn : lvOf (kindOf sm) = n) (hR : ∀ i ∈ R, n < 2 + i.val) (hS : ∀ l ∈ S, n < 20) (W : Waits sig Unit)
    {α : Type} {Q : α → sProp 𝕄} {k : PUnit → Prog (TpuEff nD τ sig (Elt F) Λ₀ .tc) α} :
    iprop(records m ρ K KS ∗ cred (tallyAt ((c : Thread nD τ), sm) () N) ∗ owes (c : Thread nD τ) (owe c ∅ R S) W ∗ atPos ER ((c : Thread nD τ), sm) 0 ∅ 0)
      ⊢ iprop((((∃ W, owes (c : Thread nD τ) (owe c ∅ R S) W) ∗ semVal ((c : Thread nD τ), sm) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, Hc, HO, Hat⟩ Hk
  ihave #HI := (inv_at m ρ K KS c kk _ hkk) $$ HR
  iapply (Rounds.wp_wait_rest_token 𝒱₀ ER (Rd m ρ) (c : Thread nD τ) none (κ := K (c, kk)) hw (Set.mem_univ _) () (O := owe c ∅ R S) (W := W) (R := 0) (m := 0) (T := ∅)
      (by rw [Nat.zero_add, expect_one m ρ hd ha])) $$ [Hc HO Hat]
  · isplitr; · iexact HI
    isplitl [Hc]; · iexact Hc
    isplitl [HO]; · iexact HO
    isplitr; · iapply ((levs_at m ρ K KS).trans (mayWait c sm n hn (fun r hr => absurd hr (Finset.notMem_empty r)) hR hS)); iexact HR
    iexact Hat
  iintro ⟨HO, Hat, -, Hpay⟩
  ihave HP := (Entails.of_eq (rest_one m ρ hd hp)) $$ Hpay
  imod (Rounds.cell_close ER (Rd m ρ) (Set.mem_univ (K (c, kk))) (fun h => h) (R := 0 + 1) (duties_later m ρ ((c : Thread nD τ), sm))) $$ [Hat] with Hz
  · isplitr; · iexact HI
    iexact Hat
  iapply Hk
  isplitl [HO]; · iexists _; iexact HO
  isplitl [Hz]; · iexact Hz
  iexact HP

/-! ## The ledger of owners who have laid out their tiles -/

/-- Word that the owner of one filled slot has entered. -/
theorem ents_at (c : Dev nD) (s : St) (t : Fin 32) (ht : arrd s t) : (Ents (F := F) c s) ⊢ Entered (xr c (xv t)) := by
  unfold Ents
  exact bigSep_elim (Finset.mem_filter.mpr ⟨Finset.mem_univ _, ht⟩)

/-- What the sender of a flight knows of its source slots' owners is what the receiver asks of its destination slots'. -/
theorem ents_fly (c : Dev nD) (s : St) (i : Fin 11) (hT : ∀ t ∈ slS i, arrd s t) : (Ents (F := F) c s) ⊢ ents (xr c (rmask (frd i))) i := by
  unfold ents
  refine bigSep_intro_persistent fun t ht => ?_
  obtain ⟨t', ht', he⟩ := slot_back i t ht
  rw [slot_owner i t t' ht he c]
  exact ents_at c s t' (hT t' ht')

/-- A flight's arrival brings the word of its owners. -/
theorem ents_arrive (c : Dev nD) (s : St) (i : Fin 11) :
    iprop(Ents (F := F) c s ∗ ents c i) ⊢ Ents (F := F) c { s with arr := Function.update s.arr i true } := by
  unfold Ents
  refine bigSep_intro_persistent fun t ht => ?_
  rcases Finset.mem_union.mp (arrS_arrive s i ht) with h | h
  · iintro ⟨H, -⟩
    have h1 : (bigSep (arrS s) fun t => (Entered (xr c (xv t)) : sProp 𝕄)) ⊢ Entered (xr c (xv t)) := bigSep_elim h
    iapply h1 $$ H
  · iintro ⟨-, H⟩
    unfold ents
    have h1 : (bigSep (slD i) fun t => (Entered (xr c (xv t)) : sProp 𝕄)) ⊢ Entered (xr c (xv t)) := bigSep_elim h
    iapply h1 $$ H

/-- What is owned over two disjoint sets is owned over each. -/
theorem over_union {I : Type} [DecidableEq I] {A B C : Finset I} (h : A = B ∪ C ∧ Disjoint B C) (Φ : I → sProp 𝕄) :
    bigSep A Φ = iprop(bigSep B Φ ∗ bigSep C Φ) := by rw [h.1]; exact bigSep_union h.2

/-! ## The states of flights and tiles, opened -/

/-- A flight before its start. -/
theorem Flt_0 (c : Dev nD) (i : Fin 11) : Flt (F := F) c i 0 = iprop(atPos ER (sLCell c i) 0 ∅ 0 ∗ dutyTok ER (sLCell c i) 0 0
    ∗ dutyTok ER (sRCell (xr c (rmask (frd i))) i) 0 0 ∗ ∃ f, dstPts (xr c (rmask (frd i))) i f) := rfl
/-- A flight under way. -/
theorem Flt_1 (c : Dev nD) (i : Fin 11) : Flt (F := F) c i 1 = iprop(atPos ER (sLCell c i) 0 ∅ 0 ∗ cred (tallyAt (sLCell c i) () (NF i))) := rfl
/-- A flight that is back. -/
theorem Flt_2 (c : Dev nD) (i : Fin 11) : Flt (F := F) c i 2 = semVal (sLCell c i) 0 := rfl
/-- A flight that has not arrived. -/
theorem Arr_f (c : Dev nD) (i : Fin 11) : Arr (F := F) c i false = iprop(atPos ER (sRCell c i) 0 ∅ 0 ∗ cred (tallyAt (sRCell c i) () (NF i))) := rfl
/-- A flight that has arrived. -/
theorem Arr_t (c : Dev nD) (i : Fin 11) : Arr (F := F) c i true = semVal (sRCell c i) 0 := rfl
/-- A tile before it is sent. -/
theorem Til_0 (c : Dev nD) (l : Fin 32) : Til (F := F) c l 0 = iprop(atPos ER (rLCell c l) 0 ∅ 0 ∗ dutyTok ER (rLCell c l) 0 0 ∗ dutyTok ER (rRCell (xr c l) l) 0 0
    ∗ writeTok ES (xr c l, l) 1 ∗ ∃ f, packPts c (sv l) f) := rfl
/-- A tile under way. -/
theorem Til_1 (c : Dev nD) (l : Fin 32) : Til (F := F) c l 1 = iprop(atPos ER (rLCell c l) 0 ∅ 0 ∗ cred (tallyAt (rLCell c l) () NT)) := rfl
/-- A tile that is back. -/
theorem Til_2 (c : Dev nD) (l : Fin 32) : Til (F := F) c l 2 = iprop(semVal (rLCell c l) 0 ∗ ∃ f, packPts c (sv l) f) := rfl
/-- A tile that has not arrived. -/
theorem Drn_f (c : Dev nD) (l : Fin 32) : Drn (F := F) c l false = iprop(atPos ER (rRCell c l) 0 ∅ 0 ∗ cred (tallyAt (rRCell c l) () NT)) := rfl
/-- A tile that has arrived. -/
theorem Drn_t (c : Dev nD) (l : Fin 32) : Drn (F := F) c l true = iprop(semVal (rRCell c l) 0 ∗ ∃ f, stagePts c l f) := rfl

/-! ## The steps -/

/-- Starting a flight. -/
theorem step_start (c : Dev nD) (i : Fin 11) (s : St) (hok : ok s (.start i))
    {α : Type} {Q : α → sProp 𝕄} {k : PUnit → Prog (TpuEff nD τ sig (Elt F) Λ₀ .tc) α} :
    iprop(records m ρ K KS ∗ Inv m ρ c s)
      ⊢ iprop((Inv m ρ c (next s (.start i)) -∗ wp frame (wpE (defs₀ (F := F)) 𝒱₀ (c : Thread nD τ) none) Set.univ (k ⟨⟩) Q)
          -∗ wp frame (wpE (defs₀ (F := F)) 𝒱₀ (c : Thread nD τ) none) Set.univ (startRd c i >>= k) Q) := by
  obtain ⟨h0, hT⟩ := hok
  have hs : Function.update s.snd i 0 = s.snd := by rw [← h0]; exact Function.update_eq_self _ _
  have hav := avail_fly s i 0 (by decide) hT
  rw [show ({ s with snd := Function.update s.snd i 0 } : St) = s by rw [hs]] at hav
  unfold startRd
  simp only [Prog.lift, Prog.bind_op, Prog.bind_ret]
  unfold Inv slots
  iintro ⟨#HR, ⟨%W, HO⟩, Hsl, HF, HA, HT, HD, #HE, Hout⟩ Hk
  ihave Hsl := (Entails.of_eq (over_union hav _)) $$ Hsl
  icases Hsl with ⟨Hsl, Hsrc⟩
  ihave Hsrc := (Entails.of_eq (srcPts_eq m ρ c i).symm) $$ Hsrc
  ihave HF := (bigSep_univ_turn (fun i v => (Flt c i v : sProp 𝕄)) s.snd i) $$ HF
  icases HF with ⟨HF1, HF⟩
  ihave HF1 := (Entails.of_eq ((congrArg (fun v => (Flt c i v : sProp 𝕄)) h0).trans (Flt_0 c i))) $$ HF1
  icases HF1 with ⟨Hat, Ht1, Ht2, ⟨%fd, Hdst⟩⟩
  iapply (wp_send_fly m ρ K KS c _ i (rdDev_eq i c) fd (owe c ∅ ((unsentF s).erase i) (unsentT s)) (owe_fly c (mem_unsentF.mpr h0)) W) $$ [Hsrc Hdst HO Ht1 Ht2]
  · isplitr; · iexact HR
    isplitl [Hsrc]; · iexact Hsrc
    isplitl [Hdst]
    · isplitl [Hdst]; · iexact Hdst
      iapply (ents_fly c s i hT); iexact HE
    isplitl [HO]; · iexact HO
    isplitl [Ht1]; · iexact Ht1
    iexact Ht2
  iintro ⟨Hc, HO⟩
  iapply Hk
  ihave HF := HF $$ %(1 : Fin 3)
  ihave HF := HF $$ [Hat Hc]
  · rw [Flt_1]
    isplitl [Hat]; · iexact Hat
    iexact Hc
  isplitl [HO]
  · iexists W
    rw [show unsentF (next s (.start i)) = (unsentF s).erase i from unsentF_start s i 1 (by decide)]
    iexact HO
  isplitl [Hsl]; · iexact Hsl
  isplitl [HF]; · iexact HF
  isplitl [HA]; · iexact HA
  isplitl [HT]; · iexact HT
  isplitl [HD]; · iexact HD
  isplitr; · iexact HE
  iexact Hout

/-- An arrival awaited. -/
theorem step_arrive (c : Dev nD) (i : Fin 11) (s : St) (hok : ok s (.arrive i))
    {α : Type} {Q : α → sProp 𝕄} {k : PUnit → Prog (TpuEff nD τ sig (Elt F) Λ₀ .tc) α} :
    iprop(records m ρ K KS ∗ Inv m ρ c s)
      ⊢ iprop((Inv m ρ c (next s (.arrive i)) -∗ wp frame (wpE (defs₀ (F := F)) 𝒱₀ (c : Thread nD τ) none) Set.univ (k ⟨⟩) Q)
          -∗ wp frame (wpE (defs₀ (F := F)) 𝒱₀ (c : Thread nD τ) none) Set.univ (waitRd i >>= k) Q) := by
  obtain ⟨h0, hA, hlt⟩ := hok
  have hav := avail_arrive s i h0 hA
  unfold waitRd
  simp only [Prog.lift, Prog.bind_op, Prog.bind_ret]
  unfold Inv
  iintro ⟨#HR, ⟨%W, HO⟩, Hsl, HF, HA, HT, HD, #HE, Hout⟩ Hk
  ihave HA := (bigSep_univ_turn (fun i v => (Arr c i v : sProp 𝕄)) s.arr i) $$ HA
  icases HA with ⟨HA1, HA⟩
  ihave HA1 := (Entails.of_eq ((congrArg (fun v => (Arr c i v : sProp 𝕄)) h0).trans (Arr_f c i))) $$ HA1
  icases HA1 with ⟨Hat, Hc⟩
  iapply (wp_wait_one m ρ K KS c (.dma (rdRecv i)) (kR i) (csem_kR i) (NF i) (wpE_waitDma2_eq 𝒱₀ (c : Thread nD τ) none Set.univ)
    (flyPay m ρ c i) (duties_sR m ρ c i) (amount_sR m ρ c i 0 0) (payload_sR m ρ c i 0 0) (2 + i.val) (by rw [kind_sR]; rfl)
    (fun j hj => by have := hlt j (mem_unsentF.mp hj); omega) (fun l _ => by have := i.isLt; omega) W) $$ [Hc HO Hat]
  · isplitr; · iexact HR
    isplitl [Hc]; · iexact Hc
    isplitl [HO]; · iexact HO
    iexact Hat
  unfold flyPay
  iintro ⟨HO, Hz, Hdst, #He⟩
  iapply Hk
  ihave HA := HA $$ %true
  ihave HA := HA $$ [Hz]
  · rw [Arr_t]; iexact Hz
  isplitl [HO]; · iexact HO
  isplitl [Hsl Hdst]
  · unfold slots
    rw [show (bigSep (availS (next s (.arrive i))) fun x => (slot1 m ρ c x.1 x.2 : sProp 𝕄)) = _ from over_union hav _]
    isplitl [Hsl]; · iexact Hsl
    iapply (Entails.of_eq (dstPts_eq m ρ c i)); iexact Hdst
  isplitl [HF]; · iexact HF
  isplitl [HA]; · iexact HA
  isplitl [HT]; · iexact HT
  isplitl [HD]; · iexact HD
  isplitr
  · iapply (ents_arrive c s i)
    isplitr; · iexact HE
    iexact He
  iexact Hout

/-- A flight's departure awaited. -/
theorem step_leftRd (c : Dev nD) (i : Fin 11) (s : St) (hok : ok s (.leftRd i))
    {α : Type} {Q : α → sProp 𝕄} {k : PUnit → Prog (TpuEff nD τ sig (Elt F) Λ₀ .tc) α} :
    iprop(records m ρ K KS ∗ Inv m ρ c s)
      ⊢ iprop((Inv m ρ c (next s (.leftRd i)) -∗ wp frame (wpE (defs₀ (F := F)) 𝒱₀ (c : Thread nD τ) none) Set.univ (k ⟨⟩) Q)
          -∗ wp frame (wpE (defs₀ (F := F)) 𝒱₀ (c : Thread nD τ) none) Set.univ (leftRd i >>= k) Q) := by
  obtain ⟨h0, hT, hall⟩ := hok
  have hs : Function.update s.snd i 1 = s.snd := by rw [← h0]; exact Function.update_eq_self _ _
  have hav := avail_fly s i 2 (by decide) hT
  rw [show ({ s with snd := Function.update s.snd i 1 } : St) = s by rw [hs]] at hav
  have hF : unsentF (next s (.leftRd i)) = unsentF s := by
    rw [show unsentF (next s (.leftRd i)) = (unsentF s).erase i from unsentF_start s i 2 (by decide), unsentF_none hall]; rfl
  unfold leftRd
  simp only [Prog.lift, Prog.bind_op, Prog.bind_ret]
  unfold Inv
  iintro ⟨#HR, ⟨%W, HO⟩, Hsl, HF, HA, HT, HD, #HE, Hout⟩ Hk
  ihave HF := (bigSep_univ_turn (fun i v => (Flt c i v : sProp 𝕄)) s.snd i) $$ HF
  icases HF with ⟨HF1, HF⟩
  rw [hF]
  ihave HF1 := (Entails.of_eq ((congrArg (fun v => (Flt c i v : sProp 𝕄)) h0).trans (Flt_1 c i))) $$ HF1
  icases HF1 with ⟨Hat, Hc⟩
  ihave Hc := (Entails.of_eq (congrArg (fun n => (cred (tallyAt (sLCell c i) () n) : sProp 𝕄)) (NF_src i).symm)) $$ Hc
  iapply (wp_wait_one m ρ K KS c (.dma (rdSend i)) (kL i) (csem_kL i) ((srcM i).view.dmaCredit) (wpE_waitDma2_eq 𝒱₀ (c : Thread nD τ) none Set.univ)
    (srcPts m ρ c i) (duties_sL m ρ c i) ((amount_sL m ρ c i 0 0).trans (NF_src i).symm) (payload_sL m ρ c i 0 0) 0 (by rw [kind_sL]; rfl)
    (fun j _ => by omega) (fun l _ => by omega) W) $$ [Hc HO Hat]
  · isplitr; · iexact HR
    isplitl [Hc]; · iexact Hc
    isplitl [HO]; · iexact HO
    iexact Hat
  iintro ⟨HO, Hz, Hsrc⟩
  iapply Hk
  ihave HF := HF $$ %(2 : Fin 3)
  ihave HF := HF $$ [Hz]
  · rw [Flt_2]; iexact Hz
  isplitl [HO]; · iexact HO
  isplitl [Hsl Hsrc]
  · unfold slots
    rw [show (bigSep (availS (next s (.leftRd i))) fun x => (slot1 m ρ c x.1 x.2 : sProp 𝕄)) = _ from over_union hav _]
    isplitl [Hsl]; · iexact Hsl
    iapply (Entails.of_eq (srcPts_eq m ρ c i)); iexact Hsrc
  isplitl [HF]; · iexact HF
  isplitl [HA]; · iexact HA
  isplitl [HT]; · iexact HT
  isplitl [HD]; · iexact HD
  isplitr; · iexact HE
  iexact Hout

/-- A tile's departure awaited. -/
theorem step_leftRes (c : Dev nD) (l : Fin 32) (s : St) (hok : ok s (.leftRes l))
    {α : Type} {Q : α → sProp 𝕄} {k : PUnit → Prog (TpuEff nD τ sig (Elt F) Λ₀ .tc) α} :
    iprop(records m ρ K KS ∗ Inv m ρ c s)
      ⊢ iprop((Inv m ρ c (next s (.leftRes l)) -∗ wp frame (wpE (defs₀ (F := F)) 𝒱₀ (c : Thread nD τ) none) Set.univ (k ⟨⟩) Q)
          -∗ wp frame (wpE (defs₀ (F := F)) 𝒱₀ (c : Thread nD τ) none) Set.univ (leftRes l >>= k) Q) := by
  obtain ⟨h0, hl, hall⟩ := hok
  have hF : unsentT (next s (.leftRes l)) = unsentT s := by
    rw [show unsentT (next s (.leftRes l)) = (unsentT s).erase l from unsentT_block s l 2 (by decide), unsentT_none hall]; rfl
  unfold leftRes
  simp only [Prog.lift, Prog.bind_op, Prog.bind_ret]
  unfold Inv
  iintro ⟨#HR, ⟨%W, HO⟩, Hsl, HF, HA, HT, HD, #HE, Hout⟩ Hk
  ihave HT := (bigSep_univ_turn (fun l v => (Til c l v : sProp 𝕄)) s.blk l) $$ HT
  icases HT with ⟨HT1, HT⟩
  rw [hF]
  ihave HT1 := (Entails.of_eq ((congrArg (fun v => (Til c l v : sProp 𝕄)) h0).trans (Til_1 c l))) $$ HT1
  icases HT1 with ⟨Hat, Hc⟩
  ihave Hc := (Entails.of_eq (congrArg (fun n => (cred (tallyAt (rLCell c l) () n) : sProp 𝕄)) (NT_pack (sv l)).symm)) $$ Hc
  iapply (wp_wait_one m ρ K KS c (.dma (resSend l)) (kT l) (csem_kT l) ((packM (sv l)).view.dmaCredit) (wpE_waitDma2_eq 𝒱₀ (c : Thread nD τ) none Set.univ)
    (packPts c (sv l) (Pc m ρ c)) (duties_rL m ρ c hl) ((amount_rL m ρ c l 0 0).trans (NT_pack (sv l)).symm) (payload_rL m ρ c l 0 0) 0 (by rw [kind_rL]; rfl)
    (fun j _ => by omega) (fun l _ => by omega) W) $$ [Hc HO Hat]
  · isplitr; · iexact HR
    isplitl [Hc]; · iexact Hc
    isplitl [HO]; · iexact HO
    iexact Hat
  iintro ⟨HO, Hz, Hp⟩
  iapply Hk
  ihave HT := HT $$ %(2 : Fin 3)
  ihave HT := HT $$ [Hz Hp]
  · rw [Til_2]
    isplitl [Hz]; · iexact Hz
    iexists _; iexact Hp
  isplitl [HO]; · iexact HO
  isplitl [Hsl]; · iexact Hsl
  isplitl [HF]; · iexact HF
  isplitl [HA]; · iexact HA
  isplitl [HT]; · iexact HT
  isplitl [HD]; · iexact HD
  isplitr; · iexact HE
  iexact Hout

end Cert.KernelIdeal.K
-- ==== Proof.Blocks.lean ====
module

public import proofs.«01_k».proof.Proof.Steps

@[expose] public section

/-! The two steps that compute: a block packed and sent, a result tile unpacked; then all steps in a row. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 87 → ℕ) (KS : Dev nD × Fin 32 → ℕ)

/-! ## What the loads and stores touch -/

/-- What a load of slot `t` reads lies in slot `t`. -/
theorem slot_load (t : Fin 32) : gM.view.setOn (Rect.unit (s := S32x2048x128) ![t.val, 0, 0] S1x2048x128.size (slot_inb t)).toLoadRect.set ⊆ slotSet t := by
  intro x hx
  rw [show gM.view.setOn (Rect.unit (s := S32x2048x128) ![t.val, 0, 0] S1x2048x128.size (slot_inb t)).toLoadRect.set
    = (gM.access (Rect.unit (s := S32x2048x128) ![t.val, 0, 0] S1x2048x128.size (slot_inb t)) : View sig .tc _ _ _).set from (View.set_slice _ _).symm] at hx
  have h := (mem_access_unit cc0_scratch0 (slot_inb t) x).mp hx 0
  have h1 : t.val ≤ (x 0).val ∧ (x 0).val < t.val + 1 := h
  exact (mem_slotSet t x).mpr (by omega)

/-- The left half of packed tile `t` lies in that tile. -/
theorem half0_set (t : Fin 32) : (pM.access (Rect.unit (s := S32x64x128) ![t.val, 0, 0] S1x64x64.size (half0_inb t)) : View sig .tc _ _ _).set ⊆ (packM t).view.set := by
  intro x hx
  have h := (mem_access_unit cc0_scratch1 (half0_inb t) x).mp hx 0
  have h1 : t.val ≤ (x 0).val ∧ (x 0).val < t.val + 1 := h
  rw [pack_set]; exact (mem_tileSet t x).mpr (by omega)
/-- The right half of packed tile `t` lies in that tile. -/
theorem half1_set (t : Fin 32) : (pM.access (Rect.unit (s := S32x64x128) ![t.val, 0, 64] S1x64x64.size (half1_inb t)) : View sig .tc _ _ _).set ⊆ (packM t).view.set := by
  intro x hx
  have h := (mem_access_unit cc0_scratch1 (half1_inb t) x).mp hx 0
  have h1 : t.val ≤ (x 0).val ∧ (x 0).val < t.val + 1 := h
  rw [pack_set]; exact (mem_tileSet t x).mpr (by omega)
/-- What a load of received tile `l` reads lies in that tile. -/
theorem tile_load (l : Fin 32) : (rM.access (Rect.unit (s := S32x64x128) ![l.val, 0, 0] S1x64x128.size (tile_inb l)) : View sig .tc _ _ _).set ⊆ (stageM l).view.set := by
  intro x hx
  have h := (mem_access_unit cc0_scratch2 (tile_inb l) x).mp hx 0
  have h1 : l.val ≤ (x 0).val ∧ (x 0).val < l.val + 1 := h
  rw [stage_set]; exact (mem_tileSet l x).mpr (by omega)

/-- A slot at a share, as a load names it. -/
theorem slot1_eq (c : Dev nD) (t : Fin 32) (k : Fin 8) :
    (slot1 m ρ c t k : sProp 𝕄) = (gM.view.loc (c : Thread nD τ) ↦[slotSet t]{ShareLeaves.leaf 3 fullShare k} Gc m ρ c) := rfl

/-! ## The steps -/

/-- A block computed, packed and sent. -/
theorem step_block (c : Dev nD) (t : Fin 32) (s : St) (hok : ok s (.block t))
    {α : Type} {Q : α → sProp 𝕄} {k : PUnit → Prog (TpuEff nD τ sig (Elt F) Λ₀ .tc) α} :
    iprop(records m ρ K KS ∗ Inv m ρ c s)
      ⊢ iprop((Inv m ρ c (next s (.block t)) -∗ wp frame (wpE (defs₀ (F := F)) 𝒱₀ (c : Thread nD τ) none) Set.univ (k ⟨⟩) Q)
          -∗ wp frame (wpE (defs₀ (F := F)) 𝒱₀ (c : Thread nD τ) none) Set.univ (doBlock c (vS m ρ c) (vX m ρ c) t >>= k) Q) := by
  obtain ⟨h0, hT, ht⟩ := hok
  have hmem : ((t, 7) : Fin 32 × Fin 8) ∈ availS s :=
    Finset.mem_filter.mpr ⟨Finset.mem_univ _, hT, by
      rintro ⟨j, -, -, hj⟩
      have := (frd j).isLt
      have h7 : (7 : ℕ) = (frd j).val := hj
      omega⟩
  unfold doBlock
  simp only [Prog.lift, Prog.bind_op, Prog.bind_ret]
  unfold Inv slots
  iintro ⟨#HR, ⟨%W, HO⟩, Hsl, HF, HA, HT, HD, #HE, Hout⟩ Hk
  ihave HT := (bigSep_univ_turn (fun l v => (Til c l v : sProp 𝕄)) s.blk (xv t)) $$ HT
  icases HT with ⟨HT1, HT⟩
  ihave HT1 := (Entails.of_eq ((congrArg (fun v => (Til c (xv t) v : sProp 𝕄)) h0).trans (Til_0 c (xv t)))) $$ HT1
  icases HT1 with ⟨Hat, Ht1, Ht2, Hw, Hp⟩
  rw [sv_xv]
  icases Hp with ⟨%fp, Hp⟩
  unfold packPts
  -- the slot, read at the share no flight takes
  ihave Hsl := (Entails.of_eq (SparseCore.bigSep_erase' (Φ := fun x : Fin 32 × Fin 8 => (slot1 m ρ c x.1 x.2 : sProp 𝕄)) hmem)) $$ Hsl
  icases Hsl with ⟨Hg, Hsl⟩
  ihave Hg := (Entails.of_eq (slot1_eq m ρ c t 7)) $$ Hg
  iapply (wp_load 𝒱₀ (c : Thread nD τ) none Set.univ (m := gM) (slot_load t)) $$ Hg; iintro Hg
  rw [slot_read m ρ c t]
  -- the two halves of the tile
  iapply (wp_load_rect 𝒱₀ (c : Thread nD τ) none Set.univ (m := pM) (half0_set t)) $$ Hp; iintro Hp
  iapply (wp_store 𝒱₀ (c : Thread nD τ) none Set.univ (m := pM) (Mk := Finset.univ) (by rw [View.setOn_univ]; exact half0_set t)) $$ Hp; iintro Hp
  iapply (wp_load_rect 𝒱₀ (c : Thread nD τ) none Set.univ (m := pM) (half1_set t)) $$ Hp; iintro Hp
  iapply (wp_store 𝒱₀ (c : Thread nD τ) none Set.univ (m := pM) (Mk := Finset.univ) (by rw [View.setOn_univ]; exact half1_set t)) $$ Hp; iintro Hp
  ihave Hp := (Entails.of_eq (pointsTo_congr fun x hx => pack_write m ρ c t fp x ((mem_tileSet t x).mp (pack_set t ▸ hx)))) $$ Hp
  -- the owner's result tile
  ihave #HS := (slotInv_at m ρ K KS (xr c (xv t), xv t)) $$ HR
  ihave #Hent := (ents_at c s t hT) $$ HE
  unfold Entered
  have hrel : (bigSep Finset.univ fun l : Fin 32 => (released ES (xr c (xv t), l) 1 : sProp 𝕄)) ⊢ released ES (xr c (xv t), xv t) 1 := bigSep_elim (Finset.mem_univ _)
  ihave #Hrel := hrel $$ Hent
  imod (slot_take ES (Set.mem_univ (KS (xr c (xv t), xv t))) 1) $$ [Hw] with Htile
  · isplitr; · iexact HS
    isplitr; · iexact Hrel
    iexact Hw
  unfold tileSlot
  icases Htile with ⟨%fd, Htile⟩
  iapply (wp_send_tile m ρ K KS c _ t ht (blkDev_eq t c) fd (owe c ∅ (unsentF s) ((unsentT s).erase (xv t))) (owe_tile c (mem_unsentT.mpr h0)) W) $$ [Hp Htile HO Ht1 Ht2]
  · isplitr; · iexact HR
    isplitl [Hp]; · unfold packPts; iexact Hp
    isplitl [Htile]; · iexact Htile
    isplitl [HO]; · iexact HO
    isplitl [Ht1]; · iexact Ht1
    iexact Ht2
  iintro ⟨Hc, HO⟩
  iapply Hk
  ihave HT := HT $$ %(1 : Fin 3)
  ihave HT := HT $$ [Hat Hc]
  · rw [Til_1]
    isplitl [Hat]; · iexact Hat
    iexact Hc
  isplitl [HO]
  · iexists W
    rw [show unsentT (next s (.block t)) = (unsentT s).erase (xv t) from unsentT_block s (xv t) 1 (by decide)]
    iexact HO
  isplitl [Hg Hsl]
  · iapply (Entails.of_eq (SparseCore.bigSep_erase' (Φ := fun x : Fin 32 × Fin 8 => (slot1 m ρ c x.1 x.2 : sProp 𝕄)) hmem).symm)
    isplitl [Hg]; · iapply (Entails.of_eq (slot1_eq m ρ c t 7).symm); iexact Hg
    iexact Hsl
  isplitl [HF]; · iexact HF
  isplitl [HA]; · iexact HA
  isplitl [HT]; · iexact HT
  isplitl [HD]; · iexact HD
  isplitr; · iexact HE
  iexact Hout

/-- A result tile awaited and unpacked. -/
theorem step_drain (c : Dev nD) (l : Fin 32) (s : St) (hok : ok s (.drain l))
    {α : Type} {Q : α → sProp 𝕄} {k : PUnit → Prog (TpuEff nD τ sig (Elt F) Λ₀ .tc) α} :
    iprop(records m ρ K KS ∗ Inv m ρ c s)
      ⊢ iprop((Inv m ρ c (next s (.drain l)) -∗ wp frame (wpE (defs₀ (F := F)) 𝒱₀ (c : Thread nD τ) none) Set.univ (k ⟨⟩) Q)
          -∗ wp frame (wpE (defs₀ (F := F)) 𝒱₀ (c : Thread nD τ) none) Set.univ (drain c l >>= k) Q) := by
  obtain ⟨h0, hl, hall⟩ := hok
  unfold drain
  simp only [Prog.lift, Prog.bind_op, Prog.bind_ret]
  unfold Inv Out
  iintro ⟨#HR, ⟨%W, HO⟩, Hsl, HF, HA, HT, HD, #HE, ⟨%f, %hf, Hout⟩⟩ Hk
  ihave HD := (bigSep_univ_turn (fun l v => (Drn c l v : sProp 𝕄)) s.drn l) $$ HD
  icases HD with ⟨HD1, HD⟩
  ihave HD1 := (Entails.of_eq ((congrArg (fun v => (Drn c l v : sProp 𝕄)) h0).trans (Drn_f c l))) $$ HD1
  icases HD1 with ⟨Hat, Hc⟩
  iapply (wp_wait_one m ρ K KS c (.dma (resRecv l)) (kU l) (csem_kU l) ((stageM l).view.dmaCredit) (wpE_waitDma2_eq 𝒱₀ (c : Thread nD τ) none Set.univ)
    (stagePts c l (Rc m ρ c)) (duties_rR m ρ c hl) ((amount_rR m ρ c l 0 0).trans (NT_stage l).symm) (payload_rR m ρ c l 0 0) 20 (by rw [kind_rR]; rfl)
    (fun j hj => absurd (mem_unsentF.mp hj) (hall.1 j)) (fun l hl => absurd (mem_unsentT.mp hl) (hall.2 l)) W) $$ [Hc HO Hat]
  · isplitr; · iexact HR
    isplitl [Hc]; · iapply (Entails.of_eq (congrArg (fun n => (cred (tallyAt (rRCell c l) () n) : sProp 𝕄)) (NT_stage l).symm)); iexact Hc
    isplitl [HO]; · iexact HO
    iexact Hat
  iintro ⟨HO, Hz, Hs⟩
  unfold stagePts
  iapply (wp_load_rect 𝒱₀ (c : Thread nD τ) none Set.univ (m := rM) (tile_load l)) $$ Hs; iintro Hs
  iapply (wp_load 𝒱₀ (c : Thread nD τ) none Set.univ (m := outM) (Finset.subset_univ _)) $$ Hout; iintro Hout
  iapply (wp_store 𝒱₀ (c : Thread nD τ) none Set.univ (m := outM) (r := Rect.unit (s := S4096x64) (k0_off2 c (BitVec.ofNat 32 l.val)) S64x64.size (off2_inb c l)) (Mk := Finset.univ) (Finset.subset_univ _)) $$ Hout; iintro Hout
  iapply (wp_load 𝒱₀ (c : Thread nD τ) none Set.univ (m := outM) (Finset.subset_univ _)) $$ Hout; iintro Hout
  iapply (wp_store 𝒱₀ (c : Thread nD τ) none Set.univ (m := outM) (r := Rect.unit (s := S4096x64) (k0_off3 c (BitVec.ofNat 32 l.val)) S64x64.size (off3_inb c l)) (Mk := Finset.univ) (Finset.subset_univ _)) $$ Hout; iintro Hout
  iapply Hk
  ihave HD := HD $$ %true
  ihave HD := HD $$ [Hz Hs]
  · rw [Drn_t]
    isplitl [Hz]; · iexact Hz
    unfold stagePts
    iexists _; iexact Hs
  isplitl [HO]; · iexact HO
  isplitl [Hsl]; · iexact Hsl
  isplitl [HF]; · iexact HF
  isplitl [HA]; · iexact HA
  isplitl [HT]; · iexact HT
  isplitl [HD]; · iexact HD
  isplitr; · iexact HE
  iexists _
  isplitr; · ipureintro; exact out_drain m ρ c l hl s.drn f hf
  iexact Hout

/-! ## All steps -/

/-- One step, whichever it is. -/
theorem step_any (c : Dev nD) (o : Op) (s : St) (hok : ok s o)
    {α : Type} {Q : α → sProp 𝕄} {k : PUnit → Prog (TpuEff nD τ sig (Elt F) Λ₀ .tc) α} :
    iprop(records m ρ K KS ∗ Inv m ρ c s)
      ⊢ iprop((Inv m ρ c (next s o) -∗ wp frame (wpE (defs₀ (F := F)) 𝒱₀ (c : Thread nD τ) none) Set.univ (k ⟨⟩) Q)
          -∗ wp frame (wpE (defs₀ (F := F)) 𝒱₀ (c : Thread nD τ) none) Set.univ (runOp c (vS m ρ c) (vX m ρ c) o >>= k) Q) :=
  match o with
  | .start i => step_start m ρ K KS c i s hok
  | .arrive i => step_arrive m ρ K KS c i s hok
  | .block t => step_block m ρ K KS c t s hok
  | .drain l => step_drain m ρ K KS c l s hok
  | .leftRd i => step_leftRd m ρ K KS c i s hok
  | .leftRes l => step_leftRes m ρ K KS c l s hok

/-- A list of steps each of which may run when its turn comes. -/
theorem run_steps (c : Dev nD) : ∀ (l : List Op) (s : St), okAll s l = true → ∀ {Q : PUnit → sProp 𝕄},
    iprop(records m ρ K KS ∗ Inv m ρ c s ∗ (Inv m ρ c (nextAll s l) -∗ Q ⟨⟩))
      ⊢ wp frame (wpE (defs₀ (F := F)) 𝒱₀ (c : Thread nD τ) none) Set.univ (each (runOp c (vS m ρ c) (vX m ρ c)) l) Q
  | [], s, _, Q => by
    show _ ⊢ wp frame _ _ (Prog.ret ⟨⟩) Q
    iintro ⟨-, HI, Hk⟩
    rw [wp_ret]; imodintro
    iapply Hk; iexact HI
  | o :: l, s, h, Q => by
    have h := (Bool.and_eq_true _ _).mp h
    show _ ⊢ wp frame _ _ (runOp c (vS m ρ c) (vX m ρ c) o >>= fun _ => each (runOp c (vS m ρ c) (vX m ρ c)) l) Q
    iintro ⟨#HR, HI, Hk⟩
    iapply (step_any m ρ K KS c o s (of_decide_eq_true h.1)) $$ [HI]
    · isplitr; · iexact HR
      iexact HI
    iintro HI
    iapply (run_steps c l (next s o) h.2)
    isplitr; · iexact HR
    isplitl [HI]; · iexact HI
    iexact Hk

end Cert.KernelIdeal.K
-- ==== Proof.Open.lean ====
module

public import proofs.«01_k».proof.Proof.Blocks

@[expose] public section

/-! The start of the body: the buffers cut into pieces, the barrier, the operands loaded, the own block done. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 87 → ℕ) (KS : Dev nD × Fin 32 → ℕ)

/-! ## The two kinds of transfer -/

/-! ## The buffers cut into pieces, and put together again -/

/-- Slots against labels, as a rearrangement. -/
def svE : Fin 32 ≃ Fin 32 := ⟨sv, xv, xv_sv, sv_xv⟩

/-- The tile buffers are made of their 32 tiles. -/
theorem tiles_all : (Finset.univ : Finset S32x64x128.Idx) = Finset.univ.biUnion tileSet := by
  ext x
  simp only [Finset.mem_univ, Finset.mem_biUnion, _root_.true_and, true_iff]
  exact ⟨(x 0 : Fin 32), (mem_tileSet _ x).mpr rfl⟩
/-- The gather buffer is made of its 32 slots. -/
theorem slots_all : (Finset.univ : Finset S32x2048x128.Idx) = Finset.univ.biUnion slotSet := by
  ext x
  simp only [Finset.mem_univ, Finset.mem_biUnion, _root_.true_and, true_iff]
  exact ⟨(x 0 : Fin 32), (mem_slotSet _ x).mpr rfl⟩

/-- The slots are slot 0 and those that the flights fill. -/
theorem slots_opened : (Finset.univ : Finset (Fin 32)) = insert 0 (Finset.univ.biUnion slD) := by
  ext t
  simp only [Finset.mem_univ, Finset.mem_insert, Finset.mem_biUnion, _root_.true_and, true_iff]
  by_cases h : t = 0
  · exact .inl h
  · exact .inr (slD_cover t h)
/-- No flight fills slot 0. -/
theorem zero_notMem : (0 : Fin 32) ∉ Finset.univ.biUnion slD := by
  rw [Finset.mem_biUnion]
  rintro ⟨i, -, hi⟩
  exact slD_zero i hi

/-- The gather buffer is slot 0 and the destinations of the flights. -/
theorem gather_open (c : Dev nD) (f : Buf (Elt F) ((c : Thread nD τ).loc cc0_scratch0)) :
    (((c : Thread nD τ).loc cc0_scratch0 ↦{fullShare} f) : sProp 𝕄)
      ⊢ iprop(((c : Thread nD τ).loc cc0_scratch0 ↦[slotSet 0]{fullShare} f) ∗ bigSep Finset.univ fun i : Fin 11 => iprop(∃ f, dstPts c i f)) := by
  refine (Entails.of_eq ((pts_slots c Finset.univ Finset.univ slots_all fullShare f).trans
    ((congrArg (fun S => bigSep S fun t => (((c : Thread nD τ).loc cc0_scratch0 ↦[slotSet t]{fullShare} f) : sProp 𝕄)) slots_opened).trans
      (bigSep_insert zero_notMem)))).trans (sep_mono_right ?_)
  rw [Idealize.SL.BI.bigSep_biUnion_eq Finset.univ slD _ (fun i _ j _ h => slD_disj i j h)]
  refine bigSep_mono fun i _ => ?_
  refine (Entails.of_eq (pts_slots c (slD i) _ (dst_set i) fullShare f).symm).trans ?_
  unfold dstPts
  iintro H
  iexists f; iexact H

/-- The packing buffer is its tiles. -/
theorem pack_open (c : Dev nD) (f : Buf (Elt F) ((c : Thread nD τ).loc cc0_scratch1)) :
    (((c : Thread nD τ).loc cc0_scratch1 ↦{fullShare} f) : sProp 𝕄) ⊢ bigSep Finset.univ fun l : Fin 32 => iprop(∃ f, packPts c (sv l) f) := by
  have h : (((c : Thread nD τ).loc cc0_scratch1 ↦[Finset.univ.biUnion tileSet]{fullShare} f) : sProp 𝕄)
      = bigSep Finset.univ fun t => (c : Thread nD τ).loc cc0_scratch1 ↦[tileSet t]{fullShare} f :=
    pointsTo_biUnion (ℓ := (c : Thread nD τ).loc cc0_scratch1) Finset.univ tileSet (fun t _ t' _ h => tileSet_disj t t' h)
  refine (Entails.of_eq ((congrArg (fun I => (((c : Thread nD τ).loc cc0_scratch1 ↦[I]{fullShare} f) : sProp 𝕄)) tiles_all).trans
    (h.trans (bigSep_univ_equiv svE _)))).trans (bigSep_mono fun l _ => ?_)
  refine (Entails.of_eq (congrArg (fun I => (((c : Thread nD τ).loc cc0_scratch1 ↦[I]{fullShare} f) : sProp 𝕄)) (pack_set (sv l)).symm)).trans ?_
  unfold packPts
  iintro H
  iexists f; iexact H

/-- The landing buffer is its tiles. -/
theorem stage_open (c : Dev nD) (f : Buf (Elt F) ((c : Thread nD τ).loc cc0_scratch2)) :
    (((c : Thread nD τ).loc cc0_scratch2 ↦{fullShare} f) : sProp 𝕄) ⊢ bigSep Finset.univ fun l : Fin 32 => tileSlot (c, l) := by
  have h : (((c : Thread nD τ).loc cc0_scratch2 ↦[Finset.univ.biUnion tileSet]{fullShare} f) : sProp 𝕄)
      = bigSep Finset.univ fun t => (c : Thread nD τ).loc cc0_scratch2 ↦[tileSet t]{fullShare} f :=
    pointsTo_biUnion (ℓ := (c : Thread nD τ).loc cc0_scratch2) Finset.univ tileSet (fun t _ t' _ h => tileSet_disj t t' h)
  refine (Entails.of_eq ((congrArg (fun I => (((c : Thread nD τ).loc cc0_scratch2 ↦[I]{fullShare} f) : sProp 𝕄)) tiles_all).trans h)).trans (bigSep_mono fun l _ => ?_)
  refine (Entails.of_eq (congrArg (fun I => (((c : Thread nD τ).loc cc0_scratch2 ↦[I]{fullShare} f) : sProp 𝕄)) (stage_set l).symm)).trans ?_
  unfold tileSlot stagePts
  iintro H
  iexists f; iexact H

/-- Tiles owned one by one are their buffer. -/
theorem pts_join (c : Dev nD) (b : Ref sig .tc) (T : Fin 32 → Finset (Idx ((c : Thread nD τ).loc b)))
    (hT : ∀ t t', t ≠ t' → Disjoint (T t) (T t')) (hU : Finset.univ = Finset.univ.biUnion T)
    (f₀ : Buf (Elt F) ((c : Thread nD τ).loc b)) :
    (bigSep Finset.univ fun t => iprop(∃ f : Buf (Elt F) ((c : Thread nD τ).loc b), (c : Thread nD τ).loc b ↦[T t]{fullShare} f))
      ⊢ (iprop(∃ f, (c : Thread nD τ).loc b ↦{fullShare} f) : sProp 𝕄) := by
  haveI : Nonempty (Buf (Elt F) ((c : Thread nD τ).loc b)) := ⟨f₀⟩
  refine (bigSep_exists_pi Finset.univ fun t (f : Buf (Elt F) ((c : Thread nD τ).loc b)) => (((c : Thread nD τ).loc b ↦[T t]{fullShare} f) : sProp 𝕄)).trans ?_
  iintro ⟨%g, H⟩
  ihave H := (pointsTo_biUnion_join (ℓ := (c : Thread nD τ).loc b) Finset.univ T g f₀ (fun t _ t' _ h => hT t t' h)) $$ H
  icases H with ⟨%f, -, H⟩
  iexists f
  iapply (Entails.of_eq (congrArg (fun I => (((c : Thread nD τ).loc b ↦[I]{fullShare} f) : sProp 𝕄)) hU.symm))
  iexact H

include m ρ in
/-- The tiles of the packing buffer make it up again. -/
theorem pack_close (c : Dev nD) : (bigSep Finset.univ fun l : Fin 32 => iprop(∃ f, packPts c (sv l) f))
    ⊢ (iprop(∃ f, (c : Thread nD τ).loc cc0_scratch1 ↦{fullShare} f) : sProp 𝕄) := by
  refine (Entails.of_eq (bigSep_univ_equiv svE (fun t => (iprop(∃ f, packPts c t f) : sProp 𝕄))).symm).trans ?_
  have h (t : Fin 32) : iprop(∃ f, packPts c t f)
      ⊢ (iprop(∃ f : Buf (Elt F) ((c : Thread nD τ).loc cc0_scratch1), (c : Thread nD τ).loc cc0_scratch1 ↦[tileSet t]{fullShare} f) : sProp 𝕄) := by
    unfold packPts
    iintro ⟨%f, H⟩
    iexists f
    iapply (Entails.of_eq (congrArg (fun I => (((c : Thread nD τ).loc cc0_scratch1 ↦[I]{fullShare} f) : sProp 𝕄)) (pack_set t)))
    iexact H
  exact (bigSep_mono fun t _ => h t).trans (pts_join c cc0_scratch1 tileSet tileSet_disj tiles_all (Pc m ρ c))

include m ρ in
/-- The tiles of the landing buffer make it up again. -/
theorem stage_close (c : Dev nD) : (bigSep Finset.univ fun l : Fin 32 => iprop(∃ f, stagePts c l f))
    ⊢ (iprop(∃ f, (c : Thread nD τ).loc cc0_scratch2 ↦{fullShare} f) : sProp 𝕄) := by
  have h (t : Fin 32) : iprop(∃ f, stagePts c t f)
      ⊢ (iprop(∃ f : Buf (Elt F) ((c : Thread nD τ).loc cc0_scratch2), (c : Thread nD τ).loc cc0_scratch2 ↦[tileSet t]{fullShare} f) : sProp 𝕄) := by
    unfold stagePts
    iintro ⟨%f, H⟩
    iexists f
    iapply (Entails.of_eq (congrArg (fun I => (((c : Thread nD τ).loc cc0_scratch2 ↦[I]{fullShare} f) : sProp 𝕄)) (stage_set t)))
    iexact H
  exact (bigSep_mono fun t _ => h t).trans (pts_join c cc0_scratch2 tileSet tileSet_disj tiles_all (Rc m ρ c))

/-! ## The result tiles laid out -/

/-- Nobody owns a result tile twice. -/
theorem tileSlot_once (k : Dev nD × Fin 32) : iprop(tileSlot k ∗ tileSlot k) ⊢ (False : sProp 𝕄) := by
  have h := slot_slot_false (Ix := Unit) (Name := ℕ) (U := UU) (Lvl := ℕ) (Val := Elt F) (ℓ := (stageM k.2).view.loc (k.1 : Thread nD τ)) (I := (stageM k.2).view.set)
    ⟨(ix3 (n0 := 32) (n1 := 64) (n2 := 128) k.2 0 0 : S32x64x128.Idx), by rw [stage_set]; exact (mem_tileSet _ _).mpr rfl⟩
  unfold slot at h
  unfold tileSlot stagePts
  exact h

/-- All tiles of device `c` laid out for their senders. -/
theorem enter (c : Dev nD) :
    iprop(records m ρ K KS ∗ (bigSep Finset.univ fun l : Fin 32 => readerAt ES (c, l) 0) ∗ bigSep Finset.univ fun l : Fin 32 => tileSlot (c, l))
      ⊢ (|={Set.univ}=> Entered c : sProp 𝕄) := by
  have h (l : Fin 32) : iprop(records m ρ K KS ∗ (readerAt ES (c, l) 0 ∗ tileSlot (c, l))) ⊢ (|={Set.univ}=> released ES (c, l) 1 : sProp 𝕄) := by
    iintro ⟨#HR, Hr, Hs⟩
    ihave #HS := (slotInv_at m ρ K KS (c, l)) $$ HR
    imod (slot_release ES (Set.mem_univ (KS (c, l))) (tileSlot_once (c, l)) 0) $$ [Hr Hs] with ⟨-, H⟩
    · isplitr; · iexact HS
      isplitl [Hr]; · iexact Hr
      iexact Hs
    imodintro
    iexact H
  unfold Entered
  refine BIBase.Entails.trans ?_ (bigSep_fupd (E := Set.univ) Finset.univ fun l : Fin 32 => (released ES (c, l) 1 : sProp 𝕄))
  refine (sep_mono_right (Entails.of_eq (bigSep_sep' _ _ _).symm)).trans ?_
  exact (sep_mono_left (BI.bigSep_of_persistent Finset.univ (records m ρ K KS))).trans (by rw [← bigSep_sep']; exact bigSep_mono fun l _ => h l)

/-! ## The barrier -/

/-- One member taken out of a product. -/
theorem over_insert {I : Type} [DecidableEq I] {s : Finset I} {i : I} (hi : i ∉ s) (Φ : I → sProp 𝕄) :
    bigSep (insert i s) Φ = iprop(Φ i ∗ bigSep s Φ) := bigSep_insert hi

/-- The barrier signals of the rounds `l`, each handing over its round's slots. -/
theorem signals (c : Dev nD) {R : Finset (Fin 11)} {S : Finset (Fin 32)} (W : Waits sig Unit) : ∀ (l : List (Fin 5)), l.Nodup →
    ∀ {α : Type} {Q : α → sProp 𝕄} {k : PUnit → Prog (TpuEff nD τ sig (Elt F) Λ₀ .tc) α},
    iprop(records m ρ K KS ∗ (bigSep l.toFinset fun r => iprop(dutyTok ER (barCell (xr c (rmask r))) 0 r ∗ barPay (xr c (rmask r)) r))
        ∗ owes (c : Thread nD τ) (owe c l.toFinset R S) W)
      ⊢ iprop((owes (c : Thread nD τ) (owe c ∅ R S) W -∗ wp frame (wpE (defs₀ (F := F)) 𝒱₀ (c : Thread nD τ) none) Set.univ (k ⟨⟩) Q)
          -∗ wp frame (wpE (defs₀ (F := F)) 𝒱₀ (c : Thread nD τ) none) Set.univ (each (sigBar c) l >>= k) Q)
  | [], _, α, Q, k => by
    show _ ⊢ iprop(_ -∗ wp frame _ _ (k ⟨⟩) Q)
    rw [List.toFinset_nil]
    iintro ⟨-, -, HO⟩ Hk
    iapply Hk; iexact HO
  | r :: l, hn, α, Q, k => by
    have hr : r ∉ l.toFinset := fun h => (List.nodup_cons.mp hn).1 (List.mem_toFinset.mp h)
    show _ ⊢ iprop(_ -∗ wp frame _ _ ((sigBar c r >>= fun _ => each (sigBar c) l) >>= k) Q)
    unfold sigBar
    simp only [semSignalWord, Prog.lift, Prog.bind_op, Prog.bind_ret]
    rw [List.toFinset_cons]
    have hO : owe c (insert r l.toFinset) R S = owe c l.toFinset R S + tallyAt (barCell (xr c (rmask r))) () 1 := by
      rw [owe_bar c (Finset.mem_insert_self r l.toFinset), Finset.erase_insert hr]
    iintro ⟨#HR, Hb, HO⟩ Hk
    ihave Hb := (Entails.of_eq (over_insert hr _)) $$ Hb
    icases Hb with ⟨⟨Ht, Hp⟩, Hb⟩
    ihave #HI := (inv_at m ρ K KS (xr c (rmask r)) 0 _ csem_bar) $$ HR
    ihave #Hr := (reached_at m ρ K KS (xr c (rmask r)) 0 _ csem_bar) $$ HR
    rw [barDev_eq r c]
    iapply (Rounds.wp_signal 𝒱₀ ER (Rd m ρ) (c : Thread nD τ) none (dst := (xr c (rmask r) : Thread nD τ)) (κ := K (xr c (rmask r), 0))
        (d := r) (by rw [duties_bar]; exact Finset.mem_univ _) ((amount_bar m ρ (xr c (rmask r)) 0 r).trans (by decide)) () (owe c l.toFinset R S)
        hO) $$ [HO Ht Hp]
    · isplitr; · iexact HI
      isplitl [HO]; · iexact HO
      isplitl [Ht]; · iexact Ht
      isplitl [Hp]; · rw [payload_bar]; iexact Hp
      iexact Hr
    iintro HO
    iapply (signals c W l (List.nodup_cons.mp hn).2) $$ [Hb HO]
    · isplitr; · iexact HR
      isplitl [Hb]; · iexact Hb
      iexact HO
    iexact Hk

/-- What the barrier's round leaves is all its signals' payloads. -/
theorem rest_bar (c : Dev nD) : bigSep ((Rd (F := F) m ρ).duties (barCell c) 0 \ ∅) (fun d => (Rd (F := F) m ρ).payload (barCell c) 0 d)
    = bigSep Finset.univ fun r => (barPay c r : sProp 𝕄) := by
  rw [Finset.sdiff_empty, duties_bar]; exact bigSep_congr fun d _ => payload_bar m ρ c 0 d

/-- An operand staged whole. -/
abbrev stgPts (c : Dev nD) (b : Ref sig .tc) (X : b.ty.Contents (Elt F)) : sProp 𝕄 := (((c : Thread nD τ).loc b) ↦{fullShare} X)

/-- An array of one element has one index. -/
theorem one_elt (a b : S1.Idx) : a = b := funext fun d => by
  obtain ⟨d, hd⟩ := d
  have : d = 0 := Nat.lt_one_iff.mp hd
  subst this
  exact Fin.ext (by have h1 : (a ⟨0, hd⟩).val < 1 := (a ⟨0, hd⟩).isLt; have h2 : (b ⟨0, hd⟩).val < 1 := (b ⟨0, hd⟩).isLt; omega)

set_option maxRecDepth 20000 in
/-- The barrier passed and the operands loaded. -/
theorem opening_run (c : Dev nD) (W : Waits sig Unit)
    {α : Type} {Q : α → sProp 𝕄} {k : F .f32 × FVec F S128x4096 .bf16 → Prog (TpuEff nD τ sig (Elt F) Λ₀ .tc) α} :
    iprop(records m ρ K KS ∗ (bigSep Finset.univ fun r => iprop(dutyTok ER (barCell (xr c (rmask r))) 0 r ∗ barPay (xr c (rmask r)) r))
        ∗ owes (c : Thread nD τ) (owe c Finset.univ Finset.univ (Finset.univ.erase 0)) W
        ∗ cred (tallyAt (barCell c) () 5) ∗ atPos ER (barCell c) 0 ∅ 0
        ∗ stgPts c cc0_stg0_0 (xstg m ρ c) ∗ stgPts c cc0_stg2_0 (sxstg m ρ c) ∗ stgPts c cc0_stg3_0 (swstg m ρ c))
      ⊢ iprop((((∃ W, owes (c : Thread nD τ) (owe c ∅ Finset.univ (Finset.univ.erase 0)) W) ∗ semVal (barCell c) 0
            ∗ (bigSep Finset.univ fun r => barPay c r)
            ∗ stgPts c cc0_stg0_0 (xstg m ρ c) ∗ stgPts c cc0_stg2_0 (sxstg m ρ c) ∗ stgPts c cc0_stg3_0 (swstg m ρ c))
            -∗ wp frame (wpE (defs₀ (F := F)) 𝒱₀ (c : Thread nD τ) none) Set.univ (k (vS m ρ c, vX m ρ c)) Q)
          -∗ wp frame (wpE (defs₀ (F := F)) 𝒱₀ (c : Thread nD τ) none) Set.univ (opening c >>= k) Q) := by
  iintro ⟨#HR, Hb, HO, Hc, Hat, Hx, Hsx, Hsw⟩ Hk
  unfold opening
  rw [Prog.bind_assoc]
  iapply (signals m ρ K KS c (R := Finset.univ) (S := Finset.univ.erase 0) W [0, 1, 2, 3, 4] (by decide)) $$ [Hb HO]
  · isplitr; · iexact HR
    isplitl [Hb]; · iexact Hb
    iexact HO
  iintro HO
  simp only [semWaitWord, smemLoad, smemLoadElt, Prog.lift, Prog.bind_op, Prog.bind_ret, Prog.pure_eq_ret]
  ihave #HI := (inv_at m ρ K KS c 0 _ csem_bar) $$ HR
  iapply (Rounds.wp_wait_rest_token 𝒱₀ ER (Rd m ρ) (c : Thread nD τ) none (κ := K (c, 0)) (wpE_semWait_eq 𝒱₀ (c : Thread nD τ) none Set.univ) (Set.mem_univ _) ()
      (O := owe c ∅ Finset.univ (Finset.univ.erase 0)) (W := W) (R := 0) (m := 0) (T := ∅) (by rw [expect_bar]; decide)) $$ [Hc HO Hat]
  · isplitr; · iexact HI
    isplitl [Hc]; · iexact Hc
    isplitl [HO]; · iexact HO
    isplitr
    · iapply ((levs_at m ρ K KS).trans (mayWait c (.reg barrier0) 1 rfl (fun r hr => absurd hr (Finset.notMem_empty r)) (fun i _ => by omega) (fun l _ => by omega))); iexact HR
    iexact Hat
  iintro ⟨HO, Hat, -, Hpay⟩
  ihave HP := (Entails.of_eq (rest_bar m ρ c)) $$ Hpay
  imod (Rounds.cell_close ER (Rd m ρ) (Set.mem_univ (K (c, 0))) (fun h => h) (R := 0 + 1) (duties_later m ρ (barCell c))) $$ [Hat] with Hz
  · isplitr; · iexact HI
    iexact Hat
  iapply (wp_load_rect 𝒱₀ (c : Thread nD τ) none Set.univ (m := sxM) (r := Rect.unit (s := S1) ![0] S1.size inb_S1_S1_0) (Finset.subset_univ _)) $$ Hsx; iintro Hsx
  iapply (wp_load_rect 𝒱₀ (c : Thread nD τ) none Set.univ (m := swM) (r := Rect.unit (s := S1) ![0] S1.size inb_S1_S1_0) (Finset.subset_univ _)) $$ Hsw; iintro Hsw
  iapply (wp_load 𝒱₀ (c : Thread nD τ) none Set.univ (m := xM) (Finset.subset_univ _)) $$ Hx; iintro Hx
  rw [show xM.view.readAt (Elt F) (Rect.unit (s := S128x4096) ![0, 0] S128x4096.size inb_S128x4096_S128x4096_0_0).toLoadRect (xstg m ρ c) = xstg m ρ c from
    Memref.readAt_unit_zero (Elt F) cc0_stg0_0 (funext fun a => by fin_cases a <;> rfl) _ _]
  rw [show ∀ x, (sxM.access (Rect.unit (s := S1) ![0] S1.size inb_S1_S1_0) : View sig .tc _ _ _).read (Elt F) (sxstg m ρ c) x = sxstg m ρ c (ix1 (0 : Fin 1)) from
      fun x => congrArg (sxstg m ρ c) (one_elt _ _),
    show ∀ x, (swM.access (Rect.unit (s := S1) ![0] S1.size inb_S1_S1_0) : View sig .tc _ _ _).read (Elt F) (swstg m ρ c) x = swstg m ρ c (ix1 (0 : Fin 1)) from
      fun x => congrArg (swstg m ρ c) (one_elt _ _)]
  iapply Hk
  isplitl [HO]; · iexists _; iexact HO
  isplitl [Hz]; · iexact Hz
  isplitl [HP]; · iexact HP
  isplitl [Hx]; · iexact Hx
  isplitl [Hsx]; · iexact Hsx
  iexact Hsw

/-- The left half of slot 0 lies in slot 0. -/
theorem left_set : (gM.access (Rect.unit (s := S32x2048x128) ![0, 0, 0] S1x2048x64.size inb_S32x2048x128_S1x2048x64_0_0_0) : View sig .tc _ _ _).set ⊆ slotSet 0 := by
  intro x hx
  have h := (mem_access_unit cc0_scratch0 inb_S32x2048x128_S1x2048x64_0_0_0 x).mp hx 0
  have h1 : 0 ≤ (x 0).val ∧ (x 0).val < 0 + 1 := h
  exact (mem_slotSet 0 x).mpr (by have : ((0 : Fin 32)).val = 0 := rfl; omega)
/-- So does the right half. -/
theorem right_set : (gM.access (Rect.unit (s := S32x2048x128) ![0, 0, 64] S1x2048x64.size inb_S32x2048x128_S1x2048x64_0_0_64) : View sig .tc _ _ _).set ⊆ slotSet 0 := by
  intro x hx
  have h := (mem_access_unit cc0_scratch0 inb_S32x2048x128_S1x2048x64_0_0_64 x).mp hx 0
  have h1 : 0 ≤ (x 0).val ∧ (x 0).val < 0 + 1 := h
  exact (mem_slotSet 0 x).mpr (by have : ((0 : Fin 32)).val = 0 := rfl; omega)

/-- At first the device holds its own slot, all of it. -/
theorem avail_st0 : availS st0 = {0} ×ˢ Finset.univ := by
  ext ⟨t, k⟩
  simp only [availS, Finset.mem_filter, Finset.mem_univ, _root_.true_and, Finset.mem_product, Finset.mem_singleton, _root_.and_true]
  constructor
  · rintro ⟨h | ⟨i, hi, -⟩, -⟩
    · exact h
    · exact absurd hi Bool.false_ne_true
  · rintro h
    exact ⟨.inl h, fun ⟨i, hi, _⟩ => absurd hi (by show ¬ ((0 : Fin 3) = 1); decide)⟩

/-- The own block: slot 0 filled with the device's own weights, its own rows of the result written. -/
theorem own_run (c : Dev nD) (f : Buf (Elt F) ((c : Thread nD τ).loc cc0_scratch0)) (fo : Buf (Elt F) ((c : Thread nD τ).loc cc0_stg4_0))
    {α : Type} {Q : α → sProp 𝕄} {k : PUnit → Prog (TpuEff nD τ sig (Elt F) Λ₀ .tc) α} :
    iprop(stgPts c cc0_stg1_0 (wstg m ρ c) ∗ ((c : Thread nD τ).loc cc0_scratch0 ↦[slotSet 0]{fullShare} f) ∗ ((c : Thread nD τ).loc cc0_stg4_0 ↦{fullShare} fo))
      ⊢ iprop(((stgPts c cc0_stg1_0 (wstg m ρ c) ∗ slots m ρ c st0 ∗ Out m ρ c st0.drn)
            -∗ wp frame (wpE (defs₀ (F := F)) 𝒱₀ (c : Thread nD τ) none) Set.univ (k ⟨⟩) Q)
          -∗ wp frame (wpE (defs₀ (F := F)) 𝒱₀ (c : Thread nD τ) none) Set.univ (own c (vS m ρ c) (vX m ρ c) >>= k) Q) := by
  unfold own
  simp only [Prog.lift, Prog.bind_op, Prog.bind_ret]
  iintro ⟨Hw, Hg, Hout⟩ Hk
  iapply (wp_load 𝒱₀ (c : Thread nD τ) none Set.univ (m := wM) (Finset.subset_univ _)) $$ Hw; iintro Hw
  iapply (wp_load_rect 𝒱₀ (c : Thread nD τ) none Set.univ (m := gM) left_set) $$ Hg; iintro Hg
  iapply (wp_store 𝒱₀ (c : Thread nD τ) none Set.univ (m := gM) (Mk := Finset.univ) (by rw [View.setOn_univ]; exact left_set)) $$ Hg; iintro Hg
  iapply (wp_load 𝒱₀ (c : Thread nD τ) none Set.univ (m := wM) (Finset.subset_univ _)) $$ Hw; iintro Hw
  iapply (wp_load_rect 𝒱₀ (c : Thread nD τ) none Set.univ (m := gM) right_set) $$ Hg; iintro Hg
  iapply (wp_store 𝒱₀ (c : Thread nD τ) none Set.univ (m := gM) (Mk := Finset.univ) (by rw [View.setOn_univ]; exact right_set)) $$ Hg; iintro Hg
  ihave Hg := (Entails.of_eq (pointsTo_congr fun x hx => own_write m ρ c f x ((mem_slotSet 0 x).mp hx))) $$ Hg
  iapply (wp_load 𝒱₀ (c : Thread nD τ) none Set.univ (m := gM) (slot_load 0)) $$ Hg; iintro Hg
  rw [slot_read m ρ c 0, show xr c (xv 0) = c from xr_zero c]
  iapply (wp_load 𝒱₀ (c : Thread nD τ) none Set.univ (m := outM) (Finset.subset_univ _)) $$ Hout; iintro Hout
  iapply (wp_store 𝒱₀ (c : Thread nD τ) none Set.univ (m := outM) (r := Rect.unit (s := S4096x64) (k0_off1 c) S128x64.size (k0_off1_inb c)) (Mk := Finset.univ) (Finset.subset_univ _)) $$ Hout; iintro Hout
  iapply Hk
  isplitl [Hw]; · iexact Hw
  isplitl [Hg]
  · unfold slots
    rw [avail_st0]
    iapply (Entails.of_eq (filled_eq m ρ c {0} (slotSet 0) Finset.singleton_biUnion.symm)); iexact Hg
  unfold Out
  iexists _
  isplitr; · ipureintro; exact out_own m ρ c fo
  iexact Hout

end Cert.KernelIdeal.K
-- ==== Proof.Body.lean ====
module

public import proofs.«01_k».proof.Proof.Open

@[expose] public section

/-! The whole body of a device: from what the launch hands it to what it leaves behind. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 87 → ℕ) (KS : Dev nD × Fin 32 → ℕ)

/-! ## The two kinds of transfer -/

/-! ## What a device starts from -/

/-- The send semaphores of the flights, in the list of all. -/
def eL : Fin 11 ↪ Fin 87 := ⟨kL, by decide⟩
/-- The receive semaphores of the flights, in the list of all. -/
def eR : Fin 11 ↪ Fin 87 := ⟨kR, by decide⟩
/-- The send semaphores of the tiles, in the list of all. -/
def eT : Fin 32 ↪ Fin 87 := ⟨kT, by decide⟩
/-- The receive semaphores of the tiles, in the list of all. -/
def eU : Fin 32 ↪ Fin 87 := ⟨kU, by decide⟩
/-- The list is the barrier and the four kinds. -/
theorem sems_all : (Finset.univ : Finset (Fin 87)) = insert 0 (Finset.univ.map eL ∪ (Finset.univ.map eR ∪ (Finset.univ.map eT ∪ Finset.univ.map eU))) := by decide +kernel
/-- The barrier is none of the four kinds. -/
theorem sems_bar : (0 : Fin 87) ∉ Finset.univ.map eL ∪ (Finset.univ.map eR ∪ (Finset.univ.map eT ∪ Finset.univ.map eU)) := by decide +kernel
/-- A flight's send semaphore is of no other kind. -/
theorem sems_L : Disjoint (Finset.univ.map eL) (Finset.univ.map eR ∪ (Finset.univ.map eT ∪ Finset.univ.map eU)) := by decide +kernel
/-- A flight's receive semaphore is no tile's. -/
theorem sems_R : Disjoint (Finset.univ.map eR) (Finset.univ.map eT ∪ Finset.univ.map eU) := by decide +kernel
/-- A tile's send semaphore is no tile's receive semaphore. -/
theorem sems_T : Disjoint (Finset.univ.map eT) (Finset.univ.map eU) := by decide +kernel

/-- The semaphores of a device, sorted by use. -/
theorem split87 (Φ : SemLoc sig → sProp 𝕄) : (bigSep Finset.univ fun k : Fin 87 => Φ (csem k))
    = iprop(Φ (.reg barrier0) ∗ (bigSep Finset.univ fun i => Φ (.dma (rdSend i))) ∗ (bigSep Finset.univ fun i => Φ (.dma (rdRecv i)))
      ∗ (bigSep Finset.univ fun l => Φ (.dma (resSend l))) ∗ bigSep Finset.univ fun l => Φ (.dma (resRecv l))) := by
  rw [sems_all, over_insert sems_bar, over_union ⟨rfl, sems_L⟩, over_union ⟨rfl, sems_R⟩, over_union ⟨rfl, sems_T⟩, bigSep_map, bigSep_map, bigSep_map, bigSep_map]
  simp only [eL, eR, eT, eU, Function.Embedding.coeFn_mk, csem_kL, csem_kR, csem_kT, csem_kU]
  rfl

/-- The tokens of the signals device `c` sends. -/
def payToks (c : Dev nD) : sProp 𝕄 :=
  iprop((bigSep Finset.univ fun r : Fin 5 => dutyTok ER (barCell (xr c (rmask r))) 0 r)
    ∗ (bigSep Finset.univ fun i : Fin 11 => dutyTok ER (sLCell c i) 0 0)
    ∗ (bigSep Finset.univ fun i : Fin 11 => dutyTok ER (sRCell (xr c (rmask (frd i))) i) 0 0)
    ∗ (bigSep Finset.univ fun l : Fin 32 => dutyTok ER (rLCell c l) 0 0)
    ∗ (bigSep Finset.univ fun l : Fin 32 => dutyTok ER (rRCell (xr c l) l) 0 0))

/-- What stays with device `c`: its positions, its tokens, its right to write the tiles meant for it, and to lay out its own. -/
def linear (c : Dev nD) : sProp 𝕄 :=
  iprop((bigSep Finset.univ fun k : Fin 87 => atPos ER (kcell (c, k)) 0 ∅ 0) ∗ payToks c
    ∗ (bigSep Finset.univ fun l : Fin 32 => writeTok ES (xr c l, l) 1) ∗ (bigSep Finset.univ fun l : Fin 32 => readerAt ES (c, l) 0))

/-- The credit of the signals device `c` waits for. -/
def credsOf (c : Dev nD) : sProp 𝕄 :=
  iprop(cred (tallyAt (barCell c) () 5) ∗ (bigSep Finset.univ fun i : Fin 11 => cred (tallyAt (sRCell c i) () (NF i)))
    ∗ (bigSep (Finset.univ.erase (0 : Fin 32)) fun l => cred (tallyAt (rRCell c l) () NT)))

/-- The three scratch buffers, with any contents. -/
def scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))

/-- The four operands staged. -/
def operands (c : Dev nD) : sProp 𝕄 :=
  iprop(stgPts c cc0_stg0_0 (xstg m ρ c) ∗ stgPts c cc0_stg1_0 (wstg m ρ c) ∗ stgPts c cc0_stg2_0 (sxstg m ρ c) ∗ stgPts c cc0_stg3_0 (swstg m ρ c))

/-- What device `c` leaves: nothing owed, every counter at zero, the scratch buffers, the operands and the result. -/
def leaves (c : Dev nD) : sProp 𝕄 :=
  iprop((∃ W, owes (c : Thread nD τ) 0 W) ∗ (bigSep Finset.univ fun k : Fin 87 => semVal (kcell (c, k)) 0) ∗ scratch c ∗ operands m ρ c
    ∗ stgPts c cc0_stg4_0 (Oc m ρ c))

/-! ## The slots handed over at the barrier -/

/-- Something of each flight, sorted by the flights' rounds. -/
theorem by_round (Φ : Fin 11 → sProp 𝕄) :
    bigSep Finset.univ Φ = bigSep Finset.univ fun r : Fin 5 => bigSep (Finset.univ.filter fun i : Fin 11 => frd i = r) Φ := by
  have h := Idealize.SL.BI.bigSep_fiberwise Finset.univ frd Φ
  rwa [show Finset.univ.image frd = Finset.univ from by decide] at h

/-- A device's own destinations are what its barrier signals hand over. -/
theorem give_all (c : Dev nD) : (bigSep Finset.univ fun i : Fin 11 => iprop(∃ f, dstPts c i f))
    = bigSep Finset.univ fun r : Fin 5 => (barPay (xr c (rmask r)) r : sProp 𝕄) := by
  rw [by_round]
  refine bigSep_congr fun r _ => ?_
  unfold barPay
  refine bigSep_congr fun i hi => ?_
  rw [(Finset.mem_filter.mp hi).2, xr_xr]

/-- What the barrier brings is the partners' destinations. -/
theorem take_all (c : Dev nD) : (bigSep Finset.univ fun r : Fin 5 => (barPay c r : sProp 𝕄))
    = bigSep Finset.univ fun i : Fin 11 => iprop(∃ f, dstPts (xr c (rmask (frd i))) i f) := by
  rw [by_round (fun i : Fin 11 => (iprop(∃ f, dstPts (xr c (rmask (frd i))) i f) : sProp 𝕄))]
  rfl

/-! ## The first state -/

/-- At the start no flight has been sent. -/
theorem unsentF_st0 : unsentF st0 = Finset.univ := by decide
/-- At the start no tile has been sent; tile 0 never is. -/
theorem unsentT_st0 : unsentT st0 = Finset.univ.erase 0 := by decide
/-- At the start only slot 0 is filled. -/
theorem arrS_st0 : arrS st0 = {0} := by
  ext t
  simp only [arrS, Finset.mem_filter, Finset.mem_univ, _root_.true_and, Finset.mem_singleton]
  exact ⟨fun h => h.elim id fun ⟨i, hi, _⟩ => absurd hi Bool.false_ne_true, .inl⟩

/-- What the launch hands over for the flights' sends is their state at the start. -/
theorem flts_st0 (c : Dev nD) :
    iprop((bigSep Finset.univ fun i : Fin 11 => atPos ER (sLCell c i) 0 ∅ 0) ∗ (bigSep Finset.univ fun i : Fin 11 => dutyTok ER (sLCell c i) 0 0)
      ∗ (bigSep Finset.univ fun i : Fin 11 => dutyTok ER (sRCell (xr c (rmask (frd i))) i) 0 0)
      ∗ (bigSep Finset.univ fun i : Fin 11 => iprop(∃ f, dstPts (xr c (rmask (frd i))) i f)))
      ⊢ (bigSep Finset.univ fun i => Flt c i (st0.snd i) : sProp 𝕄) := by
  rw [← bigSep_sep', ← bigSep_sep', ← bigSep_sep']
  exact bigSep_mono fun i _ => Entails.of_eq (Flt_0 c i).symm

/-- What the launch hands over for the flights' arrivals is their state at the start. -/
theorem arrs_st0 (c : Dev nD) :
    iprop((bigSep Finset.univ fun i : Fin 11 => atPos ER (sRCell c i) 0 ∅ 0) ∗ (bigSep Finset.univ fun i : Fin 11 => cred (tallyAt (sRCell c i) () (NF i))))
      ⊢ (bigSep Finset.univ fun i => Arr c i (st0.arr i) : sProp 𝕄) := by
  rw [← bigSep_sep']
  exact bigSep_mono fun i _ => Entails.of_eq (Arr_f c i).symm

/-- Tile 0 taken out of all tiles. -/
theorem at_erase (A : Fin 32 → sProp 𝕄) : bigSep Finset.univ A = iprop(A 0 ∗ bigSep (Finset.univ.erase 0) A) :=
  SparseCore.bigSep_erase' (Φ := A) (Finset.mem_univ 0)

/-- What the launch hands over for the tiles' sends is their state at the start. -/
theorem tils_st0 (c : Dev nD) :
    iprop((semVal (rLCell c 0) 0 ∗ ∃ f, packPts c (sv 0) f)
      ∗ (bigSep (Finset.univ.erase (0 : Fin 32)) fun l => atPos ER (rLCell c l) 0 ∅ 0) ∗ (bigSep (Finset.univ.erase (0 : Fin 32)) fun l => dutyTok ER (rLCell c l) 0 0)
      ∗ (bigSep (Finset.univ.erase (0 : Fin 32)) fun l => dutyTok ER (rRCell (xr c l) l) 0 0)
      ∗ (bigSep (Finset.univ.erase (0 : Fin 32)) fun l => writeTok ES (xr c l, l) 1)
      ∗ (bigSep (Finset.univ.erase (0 : Fin 32)) fun l => iprop(∃ f, packPts c (sv l) f)))
      ⊢ (bigSep Finset.univ fun l => Til c l (st0.blk l) : sProp 𝕄) := by
  rw [at_erase, ← bigSep_sep', ← bigSep_sep', ← bigSep_sep', ← bigSep_sep']
  refine (sep_mono_left (Entails.of_eq (Til_2 c 0).symm)).trans (sep_mono_right (bigSep_mono fun l hl => ?_))
  have h : st0.blk l = 0 := if_neg (Finset.ne_of_mem_erase hl)
  exact Entails.of_eq ((congrArg (fun v => (Til c l v : sProp 𝕄)) h).trans (Til_0 c l)).symm

/-- What the launch hands over for the tiles' arrivals is their state at the start. -/
theorem drns_st0 (c : Dev nD) :
    iprop((semVal (rRCell c 0) 0 ∗ ∃ f, stagePts c 0 f)
      ∗ (bigSep (Finset.univ.erase (0 : Fin 32)) fun l => atPos ER (rRCell c l) 0 ∅ 0)
      ∗ (bigSep (Finset.univ.erase (0 : Fin 32)) fun l => cred (tallyAt (rRCell c l) () NT)))
      ⊢ (bigSep Finset.univ fun l => Drn c l (st0.drn l) : sProp 𝕄) := by
  rw [at_erase, ← bigSep_sep']
  refine (sep_mono_left (Entails.of_eq (Drn_t c 0).symm)).trans (sep_mono_right (bigSep_mono fun l hl => ?_))
  have h : st0.drn l = false := beq_eq_false_iff_ne.mpr (Finset.ne_of_mem_erase hl)
  exact Entails.of_eq ((congrArg (fun v => (Drn c l v : sProp 𝕄)) h).trans (Drn_f c l)).symm

/-! ## The last state -/

/-- When every copy is back, all shares of all slots are at hand. -/
theorem avail_end (s : St) (h1 : ∀ i, s.snd i = 2) (h2 : ∀ i, s.arr i = true) : availS s = Finset.univ ×ˢ Finset.univ := by
  ext ⟨t, k⟩
  simp only [availS, Finset.mem_filter, Finset.mem_univ, _root_.true_and, Finset.mem_product, iff_true]
  refine ⟨?_, fun ⟨i, hi, _⟩ => absurd ((h1 i).symm.trans hi) (by decide)⟩
  by_cases h : t = 0
  · exact .inl h
  · obtain ⟨i, hi⟩ := slD_cover t h
    exact .inr ⟨i, h2 i, hi⟩

/-- At the end everything is back. -/
theorem inv_end (c : Dev nD) (s : St) (h1 : ∀ i, s.snd i = 2) (h2 : ∀ i, s.arr i = true) (h3 : ∀ l, s.blk l = 2) (h4 : ∀ l, s.drn l = true) :
    Inv m ρ c s ⊢ iprop((∃ W, owes (c : Thread nD τ) 0 W)
      ∗ ((bigSep Finset.univ fun i => semVal (sLCell c i) 0) ∗ (bigSep Finset.univ fun i => semVal (sRCell c i) 0)
        ∗ (bigSep Finset.univ fun l => semVal (rLCell c l) 0) ∗ (bigSep Finset.univ fun l => semVal (rRCell c l) 0))
      ∗ scratch c ∗ stgPts c cc0_stg4_0 (Oc m ρ c)) := by
  have hF : unsentF s = ∅ := Finset.filter_eq_empty_iff.mpr fun i _ => by rw [h1]; decide
  have hT : unsentT s = ∅ := Finset.filter_eq_empty_iff.mpr fun l _ => by rw [h3]; decide
  have eF : (bigSep Finset.univ fun i => (Flt c i (s.snd i) : sProp 𝕄)) = bigSep Finset.univ fun i => semVal (sLCell c i) 0 :=
    bigSep_congr fun i _ => (congrArg (fun v => (Flt c i v : sProp 𝕄)) (h1 i)).trans (Flt_2 c i)
  have eA : (bigSep Finset.univ fun i => (Arr c i (s.arr i) : sProp 𝕄)) = bigSep Finset.univ fun i => semVal (sRCell c i) 0 :=
    bigSep_congr fun i _ => (congrArg (fun v => (Arr c i v : sProp 𝕄)) (h2 i)).trans (Arr_t c i)
  have eT : (bigSep Finset.univ fun l => (Til c l (s.blk l) : sProp 𝕄))
      = iprop((bigSep Finset.univ fun l => semVal (rLCell c l) 0) ∗ bigSep Finset.univ fun l => iprop(∃ f, packPts c (sv l) f)) := by
    rw [← bigSep_sep']; exact bigSep_congr fun l _ => (congrArg (fun v => (Til c l v : sProp 𝕄)) (h3 l)).trans (Til_2 c l)
  have eD : (bigSep Finset.univ fun l => (Drn c l (s.drn l) : sProp 𝕄))
      = iprop((bigSep Finset.univ fun l => semVal (rRCell c l) 0) ∗ bigSep Finset.univ fun l => iprop(∃ f, stagePts c l f)) := by
    rw [← bigSep_sep']; exact bigSep_congr fun l _ => (congrArg (fun v => (Drn c l v : sProp 𝕄)) (h4 l)).trans (Drn_t c l)
  unfold Inv slots Out scratch
  rw [hF, hT, owe_none, eF, eA, eT, eD, avail_end s h1 h2]
  iintro ⟨HO, Hsl, HF, HA, ⟨HT, Hp⟩, ⟨HD, Hs⟩, -, ⟨%f, %hf, Hout⟩⟩
  rw [out_all m ρ c f s.drn h4 hf]
  isplitl [HO]; · iexact HO
  isplitl [HF HA HT HD]
  · isplitl [HF]; · iexact HF
    isplitl [HA]; · iexact HA
    isplitl [HT]; · iexact HT
    iexact HD
  isplitl [Hsl Hp Hs]
  · isplitl [Hsl]
    · iexists Gc m ρ c
      iapply (Entails.of_eq (filled_eq m ρ c Finset.univ Finset.univ slots_all).symm); iexact Hsl
    isplitl [Hp]; · iapply (pack_close m ρ c); iexact Hp
    iapply (stage_close m ρ c); iexact Hs
  iexact Hout

/-! ## The body -/

/-- The body on device `c`, from what the launch hands it to what it leaves. -/
theorem body_run (c : Dev nD) (W : Waits sig Unit) (Kt : PUnit → sProp 𝕄) :
    iprop(records m ρ K KS ∗ linear c ∗ credsOf c ∗ scratch c ∗ owes (c : Thread nD τ) (owe c Finset.univ Finset.univ (Finset.univ.erase 0)) W
        ∗ operands m ρ c ∗ (∃ f, stgPts c cc0_stg4_0 f) ∗ (leaves m ρ c -∗ Kt ⟨⟩))
      ⊢ wp frame (wpE (defs₀ (F := F)) 𝒱₀ (c : Thread nD τ) none) Set.univ (kbody (F := F)) Kt := by
  unfold linear payToks credsOf scratch operands
  iintro ⟨#HR, ⟨Hat, ⟨HtB, HtL, HtR, HtT, HtU⟩, Hw, Hr⟩, ⟨HcB, HcR, HcU⟩, Hscr, HO, Hops, ⟨%fo, Hout⟩, Hk⟩
  icases Hscr with ⟨⟨%f0, Hs0⟩, ⟨%f1, Hs1⟩, ⟨%f2, Hs2⟩⟩
  icases Hops with ⟨Hx, Hwt, Hsx, Hsw⟩
  ihave Hat := (Entails.of_eq (split87 fun sm => (atPos ER ((c : Thread nD τ), sm) 0 ∅ 0 : sProp 𝕄))) $$ Hat
  icases Hat with ⟨HaB, HaL, HaR, HaT, HaU⟩
  ihave Hs0 := (gather_open c f0) $$ Hs0
  icases Hs0 with ⟨Hg, Hdst⟩
  ihave Hs1 := (pack_open c f1) $$ Hs1
  ihave Hs2 := (stage_open c f2) $$ Hs2
  imod (enter m ρ K KS c) $$ [Hr Hs2] with #HE
  · isplitr; · iexact HR
    isplitl [Hr]; · iexact Hr
    iexact Hs2
  -- the device's own label
  ihave HaT := (Entails.of_eq (at_erase fun l => (atPos ER (rLCell c l) 0 ∅ 0 : sProp 𝕄))) $$ HaT
  icases HaT with ⟨HaT0, HaT⟩
  ihave HaU := (Entails.of_eq (at_erase fun l => (atPos ER (rRCell c l) 0 ∅ 0 : sProp 𝕄))) $$ HaU
  icases HaU with ⟨HaU0, HaU⟩
  ihave Hw := (Entails.of_eq (at_erase fun l => (writeTok ES (xr c l, l) 1 : sProp 𝕄))) $$ Hw
  icases Hw with ⟨Hw0, Hw⟩
  ihave HtT := (Entails.of_eq (at_erase fun l => (dutyTok ER (rLCell c l) 0 0 : sProp 𝕄))) $$ HtT
  icases HtT with ⟨-, HtT⟩
  ihave HtU := (Entails.of_eq (at_erase fun l => (dutyTok ER (rRCell (xr c l) l) 0 0 : sProp 𝕄))) $$ HtU
  icases HtU with ⟨-, HtU⟩
  ihave Hs1 := (Entails.of_eq (at_erase fun l => (iprop(∃ f, packPts c (sv l) f) : sProp 𝕄))) $$ Hs1
  icases Hs1 with ⟨Hp0, Hp⟩
  ihave Hw0 := (Entails.of_eq (congrArg (fun d => (writeTok ES (d, (0 : Fin 32)) 1 : sProp 𝕄)) (xr_zero c))) $$ Hw0
  ihave #HS := (slotInv_at m ρ K KS (c, 0)) $$ HR
  have hrel : (Entered c : sProp 𝕄) ⊢ released ES (c, 0) 1 := by unfold Entered; exact bigSep_elim (Finset.mem_univ (0 : Fin 32))
  ihave #Hrel := hrel $$ HE
  imod (slot_take ES (Set.mem_univ (KS (c, 0))) 1) $$ [Hw0] with Htile
  · isplitr; · iexact HS
    isplitr; · iexact Hrel
    iexact Hw0
  ihave #HI1 := (inv_at m ρ K KS c (kT 0) _ (csem_kT 0)) $$ HR
  ihave #HI2 := (inv_at m ρ K KS c (kU 0) _ (csem_kU 0)) $$ HR
  imod (Rounds.cell_close ER (Rd m ρ) (Set.mem_univ (K (c, kT 0))) (fun h => h) (R := 0) (duties_rL0 m ρ c)) $$ [HaT0] with HzT
  · isplitr; · iexact HI1
    iexact HaT0
  imod (Rounds.cell_close ER (Rd m ρ) (Set.mem_univ (K (c, kU 0))) (fun h => h) (R := 0) (duties_rR0 m ρ c)) $$ [HaU0] with HzU
  · isplitr; · iexact HI2
    iexact HaU0
  -- the barrier and the operands
  unfold kbody
  simp only [Prog.lift, Prog.bind_op, Prog.bind_ret, wp_deviceId]
  iapply (opening_run m ρ K KS c W) $$ [HtB Hdst HO HcB HaB Hx Hsx Hsw]
  · isplitr; · iexact HR
    isplitl [HtB Hdst]
    · iapply (Entails.of_eq (bigSep_sep' _ _ _).symm)
      isplitl [HtB]; · iexact HtB
      iapply (Entails.of_eq (give_all c)); iexact Hdst
    isplitl [HO]; · iexact HO
    isplitl [HcB]; · iexact HcB
    isplitl [HaB]; · iexact HaB
    isplitl [Hx]; · iexact Hx
    isplitl [Hsx]; · iexact Hsx
    iexact Hsw
  iintro ⟨HO, HzB, Hpeer, Hx, Hsx, Hsw⟩
  iapply (own_run m ρ c f0 fo) $$ [Hwt Hg Hout]
  · isplitl [Hwt]; · iexact Hwt
    isplitl [Hg]; · iexact Hg
    iexact Hout
  iintro ⟨Hwt, Hsl, Hout⟩
  ihave Hpeer := (Entails.of_eq (take_all c)) $$ Hpeer
  iapply (run_steps m ρ K KS c program st0 program_ok)
  isplitr; · iexact HR
  isplitr [Hk HzB Hx Hwt Hsx Hsw]
  · unfold Inv
    rw [unsentF_st0, unsentT_st0]
    isplitl [HO]; · iexact HO
    isplitl [Hsl]; · iexact Hsl
    isplitl [HaL HtL HtR Hpeer]
    · iapply (flts_st0 c)
      isplitl [HaL]; · iexact HaL
      isplitl [HtL]; · iexact HtL
      isplitl [HtR]; · iexact HtR
      iexact Hpeer
    isplitl [HaR HcR]
    · iapply (arrs_st0 c)
      isplitl [HaR]; · iexact HaR
      iexact HcR
    isplitl [HzT Hp0 HaT HtT HtU Hw Hp]
    · iapply (tils_st0 c)
      isplitl [HzT Hp0]
      · isplitl [HzT]; · iexact HzT
        iexact Hp0
      isplitl [HaT]; · iexact HaT
      isplitl [HtT]; · iexact HtT
      isplitl [HtU]; · iexact HtU
      isplitl [Hw]; · iexact Hw
      iexact Hp
    isplitl [HzU Htile HaU HcU]
    · iapply (drns_st0 c)
      isplitl [HzU Htile]
      · isplitl [HzU]; · iexact HzU
        iapply (show (tileSlot (c, 0) : sProp 𝕄) ⊢ iprop(∃ f, stagePts c 0 f) by unfold tileSlot; exact BI.Entails.refl _)
        iexact Htile
      isplitl [HaU]; · iexact HaU
      iexact HcU
    isplitr
    · unfold Ents
      rw [arrS_st0, bigSep_singleton, show xr c (xv 0) = c from xr_zero c]
      iexact HE
    iexact Hout
  iintro HI
  iapply Hk
  ihave HI := (inv_end m ρ c (nextAll st0 program) program_end.1 program_end.2.1 program_end.2.2.1 program_end.2.2.2) $$ HI
  icases HI with ⟨HO, ⟨H1, H2, H3, H4⟩, Hscr, Hout⟩
  unfold leaves operands
  isplitl [HO]; · iexact HO
  isplitl [HzB H1 H2 H3 H4]
  · iapply (Entails.of_eq (split87 fun sm => (semVal ((c : Thread nD τ), sm) 0 : sProp 𝕄)).symm)
    isplitl [HzB]; · iexact HzB
    isplitl [H1]; · iexact H1
    isplitl [H2]; · iexact H2
    isplitl [H3]; · iexact H3
    iexact H4
  isplitl [Hscr]; · iexact Hscr
  isplitl [Hx Hwt Hsx Hsw]
  · isplitl [Hx]; · iexact Hx
    isplitl [Hwt]; · iexact Hwt
    isplitl [Hsx]; · iexact Hsx
    iexact Hsw
  iexact Hout

end Cert.KernelIdeal.K
-- ==== Proof.BodyEq.lean ====
module

public import proofs.«01_k».proof.Proof.Struct

@[expose] public section

noncomputable section
namespace Cert.KernelIdeal.K

open Idealize.ShloMosaic Idealize.SL.Sem Cert.KernelIdeal Cert.KernelIdeal.Gen

variable {F : FTy → Type} [FloatOps F]

/-- Two programs with the same first operation and equal continuations are equal. -/
theorem op_congr {Eff : Type → Type} {α β : Type} {e e' : Eff β} {k k' : β → Prog Eff α} (he : e = e') (h : ∀ x, k x = k' x) :
    Prog.op e k = Prog.op e' k' := by
  subst he; exact congrArg _ (funext h)

set_option maxHeartbeats 0 in
set_option maxRecDepth 100000 in
/-- The printed body is the composition of its pieces. -/
theorem body_eq (t : Fin cfg0.N) : bodyAt0 (F := F) t = kbody (F := F) := by
  repeat (refine op_congr rfl ?_; intro x; beta_reduce)
  rfl

end Cert.KernelIdeal.K
-- ==== Proof.Oblig.lean ====
module

public import proofs.«01_k».proof.Proof.Body
public import proofs.«01_k».proof.Proof.BodyEq
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

/-! The body as the pipeline runs it: what it stages, and what the body leaves staged. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two kinds of transfer -/

/-- What device `c` owes at launch. -/
def O₀ (c : Dev nD) : CellTallies nD τ sig Unit := owe c Finset.univ Finset.univ (Finset.univ.erase 0)

/-- What device `c`'s body starts from, besides the scratch buffers. -/
def start (c : Dev nD) : sProp 𝕄 := iprop((∃ K KS, records m ρ K KS ∗ linear c) ∗ credsOf c)

/-- Before the body, and after it. -/
def Φ₀ (c : Dev nD) : sProp 𝕄 := iprop(start m ρ c ∗ scratch c)
/-- After the body: every semaphore of the kernel at zero, and the buffers. -/
def Φ₁ (c : Dev nD) : sProp 𝕄 := iprop((bigSep Finset.univ fun k : Fin 87 => semVal (kcell (c, k)) 0) ∗ scratch c)

/-- The pipeline's account of the call: the operands staged and unchanged, the result computed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => Oc m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A whole buffer owned at known contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The five windows one by one. -/
theorem by_window (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- A whole buffer owned at the contents `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is given, and what it gives back. -/
def bodyPre (c : Dev nD) : sProp 𝕄 :=
  iprop(Φ₀ m ρ c ∗ (dats m ρ 0 c).owesAt () t0_0.castSucc
    ∗ (∃ d, held c cc0_stg0_0 ((dats m ρ 0 c).before (0 : Fin 5) t0_0 d))
    ∗ (∃ d, held c cc0_stg1_0 ((dats m ρ 0 c).before (1 : Fin 5) t0_0 d))
    ∗ (∃ d, held c cc0_stg2_0 ((dats m ρ 0 c).before (2 : Fin 5) t0_0 d))
    ∗ (∃ d, held c cc0_stg3_0 ((dats m ρ 0 c).before (3 : Fin 5) t0_0 d))
    ∗ (∃ d, held c cc0_stg4_0 ((dats m ρ 0 c).before (4 : Fin 5) t0_0 d)))
/-- What the body's run ends with. -/
def bodyPost (c : Dev nD) : sProp 𝕄 :=
  iprop(Φ₁ c ∗ (dats m ρ 0 c).owesAt () t0_0.succ
    ∗ held c cc0_stg0_0 (xstg m ρ c) ∗ held c cc0_stg1_0 (wstg m ρ c) ∗ held c cc0_stg2_0 (sxstg m ρ c) ∗ held c cc0_stg3_0 (swstg m ρ c)
    ∗ held c cc0_stg4_0 (Oc m ρ c))

/-- The body on device `c`, as a step of the pipeline. -/
theorem sound_body (c : Dev nD) : bodyPre m ρ c ⊢ wp frame (wpE (defs₀ (F := F)) 𝒱₀ (c : Thread nD τ) none) Set.univ (kbody (F := F)) (fun _ => bodyPost m ρ c) := by
  unfold bodyPre Φ₀ start
  iintro ⟨⟨⟨⟨%K, %KS, HR, Hlin⟩, Hcr⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩⟩
  have e0 : g0 = xstg m ρ c := by rw [h0]; unfold Dat.before; rw [if_pos (fetch0_0 t0_0)]; rfl
  have e1 : g1 = wstg m ρ c := by rw [h1]; unfold Dat.before; rw [if_pos (fetch0_1 t0_0)]; rfl
  have e2 : g2 = sxstg m ρ c := by rw [h2]; unfold Dat.before; rw [if_pos (fetch0_2 t0_0)]; rfl
  have e3 : g3 = swstg m ρ c := by rw [h3]; unfold Dat.before; rw [if_pos (fetch0_3 t0_0)]; rfl
  subst e0 e1 e2 e3
  unfold Dat.owesAt Pipeline.owesWithin
  icases Ho with ⟨%W, %hW, HO⟩
  rw [show (dats m ρ 0 c).owed t0_0.castSucc = owe c Finset.univ Finset.univ (Finset.univ.erase 0) from rfl]
  iapply (body_run m ρ K KS c W fun _ => bodyPost m ρ c)
  isplitl [HR]; · iexact HR
  isplitl [Hlin]; · iexact Hlin
  isplitl [Hcr]; · iexact Hcr
  isplitl [Hscr]; · iexact Hscr
  isplitl [HO]; · iexact HO
  isplitl [H0 H1 H2 H3]
  · unfold operands
    isplitl [H0]; · iexact H0
    isplitl [H1]; · iexact H1
    isplitl [H2]; · iexact H2
    iexact H3
  isplitl [H4]; · iexists g4; iexact H4
  unfold leaves operands
  iintro ⟨⟨%W, HO⟩, Hz, Hscr, ⟨H0, H1, H2, H3⟩, H4⟩
  unfold bodyPost Φ₁ Dat.owesAt Pipeline.owesWithin
  rw [show (dats m ρ 0 c).owed t0_0.succ = 0 from rfl]
  isplitl [Hz Hscr]
  · isplitl [Hz]; · iexact Hz
    iexact Hscr
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

set_option maxRecDepth 20000 in
/-- The body as the pipeline asks for it. -/
theorem body_obligation (c : Dev nD) : BodyObligation (dats (F := F) m ρ 0 c) (defs₀ (F := F)) 𝒱₀ () Set.univ := fun t => by
  rw [fin_N0 t]
  rw [by_window, by_window]
  simp only [owns_whole]
  show bodyPre m ρ c ⊢ wp frame (wpE (defs₀ (F := F)) 𝒱₀ (c : Thread nD τ) none) Set.univ (bodyAt0 (F := F) t0_0) (fun _ => bodyPost m ρ c)
  rw [body_eq]
  exact sound_body m ρ c

end Cert.KernelIdeal.K
-- ==== Proof.Launch.lean ====
module

public import proofs.«01_k».proof.Proof.Oblig
public import proofs.«01_k».proof.Proof.BodyEq
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

/-! The launch: the ghost state made and dealt, the credit counted, and the run of the whole program. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two kinds of transfer -/

/-! ## The launch element -/

/-- The kernel's own semaphores are none of the pipeline's. -/
theorem ownSemFacts : Pipeline.OwnSemFacts cfg0.spec osem := by decide +kernel

/-- Every window is held whole. -/
theorem share_eq (c : Dev nD) (w : Fin cfg0.W) : (dats m ρ 0 c).share w = fullShare := by unfold Dat.share; split <;> rfl

/-- The list of semaphores has no repetition. -/
theorem csem_inj : Function.Injective csem := by decide +kernel
/-- Nor has the list over all devices. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
/-- The semaphores of all devices. -/
def allCells : Finset (GSem nD τ sig) := Finset.univ.map ⟨kcell, kcell_inj⟩

/-- The kinds of tokens a device's semaphores have. -/
abbrev TI : Type := Fin 5 ⊕ (Fin 11 ⊕ (Fin 11 ⊕ (Fin 32 ⊕ Fin 32)))
/-- The semaphore and the duty of each token. -/
def tokKey : TI → SemLoc sig × Fin 5
  | .inl r => (.reg barrier0, r)
  | .inr (.inl i) => (.dma (rdSend i), 0)
  | .inr (.inr (.inl i)) => (.dma (rdRecv i), 0)
  | .inr (.inr (.inr (.inl l))) => (.dma (resSend l), 0)
  | .inr (.inr (.inr (.inr l))) => (.dma (resRecv l), 0)
/-- The same by the semaphore's kind. -/
def keyKind : TI → Kind × Fin 5
  | .inl r => (.bar, r)
  | .inr (.inl i) => (.sL i, 0)
  | .inr (.inr (.inl i)) => (.sR i, 0)
  | .inr (.inr (.inr (.inl l))) => (.rL l, 0)
  | .inr (.inr (.inr (.inr l))) => (.rR l, 0)
/-- The two agree. -/
theorem key_kind : ∀ j, (kindOf (tokKey j).1, (tokKey j).2) = keyKind j
  | .inl r => rfl
  | .inr (.inl i) => by show (kindOf (.dma (rdSend i)), _) = _; rw [kind_sL]; rfl
  | .inr (.inr (.inl i)) => by show (kindOf (.dma (rdRecv i)), _) = _; rw [kind_sR]; rfl
  | .inr (.inr (.inr (.inl l))) => by show (kindOf (.dma (resSend l)), _) = _; rw [kind_rL]; rfl
  | .inr (.inr (.inr (.inr l))) => by show (kindOf (.dma (resRecv l)), _) = _; rw [kind_rR]; rfl
/-- Different tokens have different kinds or duties. -/
theorem keyKind_inj : Function.Injective keyKind := by
  rintro (a | a | a | a | a) (b | b | b | b | b) h <;> cases h <;> rfl
/-- So different tokens have different semaphores or duties. -/
theorem tokKey_inj : Function.Injective tokKey := fun a b h =>
  keyKind_inj (by rw [← key_kind, ← key_kind, h])

/-- A device's token as a cell, a round and a duty. -/
def tokOf (cj : Dev nD × TI) : GSem nD τ sig × ℕ × Fin 5 := (((cj.1 : Thread nD τ), (tokKey cj.2).1), 0, (tokKey cj.2).2)
/-- Different tokens of all devices are different. -/
theorem tokOf_inj : Function.Injective tokOf := by
  rintro ⟨c, j⟩ ⟨c', j'⟩ h
  have h1 : c = c' := congrArg (fun x : GSem nD τ sig × ℕ × Fin 5 => x.1.1.1) h
  have h2 : j = j' := tokKey_inj (congrArg (fun x : GSem nD τ sig × ℕ × Fin 5 => (x.1.2, x.2.2)) h)
  rw [h1, h2]
/-- The tokens of all signals. -/
def allToks : Finset (GSem nD τ sig × ℕ × Fin 5) := Finset.univ.map ⟨tokOf, tokOf_inj⟩

/-- The ghost state that the launch starts from. -/
def u₀ : UU :=
  (initOf (Pipeline.cells cfgs cellOf_inj) (Pipeline.launchToks cfgs cellOf_inj), initOf allCells allToks, initSlots Finset.univ 1)

/-- The tokens of device `c`'s own semaphores. -/
def toks (c : Dev nD) : sProp 𝕄 :=
  iprop((bigSep Finset.univ fun r : Fin 5 => dutyTok ER (barCell c) 0 r)
    ∗ (bigSep Finset.univ fun i : Fin 11 => dutyTok ER (sLCell c i) 0 0)
    ∗ (bigSep Finset.univ fun i : Fin 11 => dutyTok ER (sRCell c i) 0 0)
    ∗ (bigSep Finset.univ fun l : Fin 32 => dutyTok ER (rLCell c l) 0 0)
    ∗ (bigSep Finset.univ fun l : Fin 32 => dutyTok ER (rRCell c l) 0 0))

/-- The hand-over of the tiles, all of it in one place. -/
def slotsOf (c : Dev nD) : sProp 𝕄 := if c = 0 then BI.own (ES (initSlots Finset.univ 1)) else iprop(emp)

/-- What the launch deals device `c`. -/
def G (c : Dev nD) : sProp 𝕄 :=
  iprop((bigSep Finset.univ fun k : Fin 87 => roundState ER (Rd m ρ) (kcell (c, k)) 0)
    ∗ (bigSep Finset.univ fun k : Fin 87 => iprop(atPos ER (kcell (c, k)) 0 ∅ 0 ∗ reached ER (kcell (c, k)) 0)) ∗ toks c ∗ slotsOf c)

/-- The invariants, that every semaphore is at its first round, and the tiles' invariants. -/
def recs (K : Dev nD × Fin 87 → ℕ) (KS : Dev nD × Fin 32 → ℕ) : sProp 𝕄 :=
  iprop((bigSep Finset.univ fun ck => cellInv ER (Rd m ρ) (K ck) (kcell ck)) ∗ (bigSep Finset.univ fun ck : Dev nD × Fin 87 => reached ER (kcell ck) 0)
    ∗ (bigSep Finset.univ fun k => slotInv ES (KS k) k (tileSlot k)))
/-- The records may be used again and again. -/
instance recs_persistent (K : Dev nD × Fin 87 → ℕ) (KS : Dev nD × Fin 32 → ℕ) : BI.Persistent (recs (F := F) m ρ K KS) := by unfold recs; infer_instance

/-- What device `c` has when all is dealt. -/
def G' (c : Dev nD) : sProp 𝕄 := iprop(∃ K KS, recs m ρ K KS ∗ linear c)

/-- A product over a sum of two types is the two products. -/
theorem sum_split {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := by
  have h : (Finset.univ : Finset (A ⊕ B)) = Finset.univ.map Function.Embedding.inl ∪ Finset.univ.map Function.Embedding.inr := by
    ext x; cases x <;> simp
  rw [h, over_union ⟨rfl, by
    rw [Finset.disjoint_left]; intro x h1 h2
    obtain ⟨a, -, rfl⟩ := Finset.mem_map.mp h1
    obtain ⟨b, -, hb⟩ := Finset.mem_map.mp h2
    cases hb⟩, bigSep_map, bigSep_map]
  rfl

/-- The exclusive slots, device by device. -/
theorem slotsOf_all : (BI.own (ES (initSlots Finset.univ 1)) : sProp 𝕄) = bigSep Finset.univ fun c : Dev nD => slotsOf c := by
  have h : (bigSep (Finset.univ.erase (0 : Dev nD)) fun c => (slotsOf c : sProp 𝕄)) = iprop(emp) := by
    rw [bigSep_congr (fun c hc => show (slotsOf c : sProp 𝕄) = iprop(emp) from if_neg (Finset.ne_of_mem_erase hc))]
    exact bigSep_emp_const _
  rw [SparseCore.bigSep_erase' (Φ := fun c : Dev nD => (slotsOf c : sProp 𝕄)) (Finset.mem_univ (0 : Dev nD)), h]
  unfold slotsOf
  rw [if_pos rfl]
  exact BI.Entails.antisymm Idealize.SL.BI.sep_emp.2 Idealize.SL.BI.sep_emp.1

/-- The launch element makes what each device is dealt. -/
theorem fund_all : BI.own (embR (A := UR sig nD τ) (initOf allCells allToks, initSlots Finset.univ 1)) ⊢ (|==> bigSep Finset.univ (G m ρ) : sProp 𝕄) := by
  have hX (Φ : GSem nD τ sig → sProp 𝕄) : bigSep allCells Φ = bigSep Finset.univ fun c : Dev nD => bigSep Finset.univ fun k : Fin 87 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [sum_split, sum_split, sum_split, sum_split]
    rfl
  iintro H
  ihave H := (own_pair_emb _ _ _) $$ H
  icases H with ⟨HX, HS⟩
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (Entails.of_eq (slotsOf_all (F := F))) $$ HS
  unfold G; simp only [bigSep_sep']
  isplitl [Hst']; · iexact Hst'
  isplitl [Hat' Hr']
  · isplitl [Hat'] <;> iassumption
  isplitl [Htok']; · iexact Htok'
  iexact HS'

/-! ## Dealing -/

/-- The one semaphore that the call does not allocate is the barrier. -/
theorem barrier_sem (c : Dev nD) : (unscopedSems0 c : sProp 𝕄) = semVal (barCell c) 0 := by
  unfold unscopedSems0; rw [bigSep_eq_bigSepL_of_eq [SemLoc.reg barrier0] (by decide +kernel) (by decide +kernel)]; rfl

/-- The kernel's own semaphores and the barrier's are all of a device's. -/
theorem sems87 (c : Dev nD) :
    iprop(Pipeline.ownSems0 (Ix := Unit) (Name := ℕ) (U := UU) (Lvl := ℕ) (Val := Elt F) (τ := τ) osem c ∗ unscopedSems0 c)
      = (bigSep Finset.univ fun k : Fin 87 => semVal (kcell (c, k)) 0 : sProp 𝕄) := by
  have hu : (Finset.univ : Finset (Fin 87)) = insert 0 (Finset.univ.map (Fin.succEmb 86)) := by decide +kernel
  rw [barrier_sem, hu, over_insert (by decide +kernel), bigSep_map]
  exact BI.Entails.antisymm Idealize.SL.BI.sep_comm Idealize.SL.BI.sep_comm

/-- One device's semaphores put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ slotsOf c) := by
  have halloc : iprop((bigSep Finset.univ fun k : Fin 87 => semVal (kcell (c, k)) 0) ∗ bigSep Finset.univ fun k : Fin 87 => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (Entails.of_eq (sems87 (F := F) c)) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

/-- Something each device has for each index, dealt on at that index's distance. -/
theorem deal {I : Type} [Fintype I] (g : I → Fin 32) (Φ : Dev nD → I → sProp 𝕄) :
    (bigSep Finset.univ fun c : Dev nD => bigSep Finset.univ fun i => Φ c i) = bigSep Finset.univ fun c : Dev nD => bigSep Finset.univ fun i => Φ (xr c (g i)) i := by
  rw [Idealize.SL.BI.bigSep_univ_comm, Idealize.SL.BI.bigSep_univ_comm (fun (c : Dev nD) i => Φ (xr c (g i)) i)]
  exact bigSep_congr fun i _ => bigSep_univ_equiv (xrE (g i)) (fun c => Φ c i)

/-- The tokens of all cells, dealt to the devices that pay them. -/
theorem toks_dealt : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep',
    deal (fun r : Fin 5 => rmask r) (fun c r => dutyTok ER (barCell c) 0 r),
    deal (fun i : Fin 11 => rmask (frd i)) (fun c i => dutyTok ER (sRCell c i) 0 0),
    deal (fun l : Fin 32 => l) (fun c l => dutyTok ER (rRCell c l) 0 0)]

/-- A fact that may be used again serves every member of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tiles put under their invariants. -/
theorem tiles_alloc : (bigSep Finset.univ fun c : Dev nD => (slotsOf c : sProp 𝕄))
    ⊢ (|={Set.univ}=> ∃ KS : Dev nD × Fin 32 → ℕ, (bigSep Finset.univ fun k => slotInv ES (KS k) k (tileSlot k))
        ∗ (bigSep Finset.univ fun c : Dev nD => bigSep Finset.univ fun l : Fin 32 => readerAt ES (c, l) 0)
        ∗ bigSep Finset.univ fun c : Dev nD => bigSep Finset.univ fun l : Fin 32 => writeTok ES (c, l) 1 : sProp 𝕄) := by
  rw [← slotsOf_all]
  iintro H
  imod (slots_init ES (Finset.univ : Finset (Dev nD × Fin 32)) 1 (fun k => (tileSlot k : sProp 𝕄)) ∅) $$ H with ⟨%KS, -, HI, Hr, Hw⟩
  imodintro
  iexists KS
  isplitl [HI]; · iexact HI
  isplitl [Hr]
  · iapply (Entails.of_eq (bigSep_univ_prod (fun k : Dev nD × Fin 32 => (readerAt ES k 0 : sProp 𝕄)))); iexact Hr
  iapply (Entails.of_eq (bigSep_univ_prod (fun k : Dev nD × Fin 32 => (writeTok ES k 1 : sProp 𝕄))))
  iapply (Entails.of_eq (show (bigSep ((Finset.univ : Finset (Dev nD × Fin 32)) ×ˢ Finset.range 1) fun x => (writeTok ES x.1 (x.2 + 1) : sProp 𝕄)) = _ from by
    rw [SparseCore.bigSep_product, Finset.range_one]
    exact bigSep_congr fun k _ => bigSep_singleton))
  iexact Hw

/-- All that the devices made, dealt to those who use it. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ slotsOf c) : sProp 𝕄)
      ⊢ |={Set.univ}=> bigSep Finset.univ (G' m ρ) := by
  rw [bigSep_sep', bigSep_sep', bigSep_sep', ← bigSep_univ_prod (fun ck : Dev nD × Fin 87 => iprop(∃ κ : ℕ, cellInv ER (Rd m ρ) κ (kcell ck))),
    bigSep_congr (s := Finset.univ) (fun (c : Dev nD) _ => bigSep_sep' Finset.univ (fun k : Fin 87 => (atPos ER (kcell (c, k)) 0 ∅ 0 : sProp 𝕄)) (fun k => reached ER (kcell (c, k)) 0)),
    bigSep_sep', ← bigSep_univ_prod (fun ck : Dev nD × Fin 87 => (reached ER (kcell ck) 0 : sProp 𝕄)), toks_dealt]
  iintro ⟨HI, ⟨Hat, #HR⟩, Htok, Hsl⟩
  ihave HK := (BI.bigSep_exists_pi Finset.univ (fun (ck : Dev nD × Fin 87) (κ : ℕ) => (cellInv ER (Rd m ρ) κ (kcell ck) : sProp 𝕄))) $$ HI
  icases HK with ⟨%K, #HI⟩
  imod (tiles_alloc (F := F)) $$ Hsl with ⟨%KS, #HS, Hr, Hw⟩
  imodintro
  ihave Hw := (Entails.of_eq (deal (fun l : Fin 32 => l) (fun c l => (writeTok ES (c, l) 1 : sProp 𝕄)))) $$ Hw
  iapply (with_persistent (R := recs m ρ K KS) (Φ := fun c => (linear c : sProp 𝕄)) fun c _ => show _ ⊢ G' m ρ c from by
    unfold G'
    iintro H
    iexists K; iexists KS; iexact H)
  isplitr
  · unfold recs
    isplitr; · iexact HI
    isplitr; · iexact HR
    iexact HS
  unfold linear
  simp only [bigSep_sep']
  isplitl [Hat]; · iexact Hat
  isplitl [Htok]; · iexact Htok
  isplitl [Hw]; · iexact Hw
  iexact Hr

/-- The global step of the launch. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans ((BI.fupd_mono (regroup m ρ)).trans fupd_idem.1)

/-! ## The credit -/

/-- Equal cells have equal devices and semaphores. -/
theorem kcell_kind {c d : Dev nD} {a b : SemLoc sig} (h : ((c : Thread nD τ), a) = ((d : Thread nD τ), b)) : c = d ∧ a = b :=
  ⟨congrArg (fun g : GSem nD τ sig => g.1.1) h, congrArg Prod.snd h⟩

/-- One device's semaphore is signalled by exactly one device for each tally at a fixed distance. -/
theorem sum_one (sm sm' : SemLoc sig) (c : Dev nD) (a : Fin 32) (n : ℕ) :
    (∑ d : Dev nD, (tallyAt (((xr d a : Dev nD) : Thread nD τ), sm') () n : CellTallies nD τ sig Unit) ((c : Thread nD τ), sm) ()) = if sm = sm' then n else 0 := by
  refine (Equiv.sum_comp (xrE a) fun d : Dev nD => (tallyAt ((d : Thread nD τ), sm') () n : CellTallies nD τ sig Unit) ((c : Thread nD τ), sm) ()).trans ?_
  rw [Finset.sum_eq_single c (fun d _ hd => by rw [tallyAt_apply, if_neg fun h => hd (kcell_kind h.1).1.symm]) (fun h => absurd (Finset.mem_univ _) h), tallyAt_apply]
  by_cases h : sm = sm'
  · rw [if_pos h, if_pos ⟨by rw [h], rfl⟩]
  · rw [if_neg h, if_neg fun h' => h (kcell_kind h'.1).2]

/-- What all devices together owe a semaphore. -/
theorem owed_at (c : Dev nD) (sm : SemLoc sig) :
    (∑ d : Dev nD, O₀ d ((c : Thread nD τ), sm) ()) = (∑ _r : Fin 5, if sm = .reg barrier0 then 1 else 0)
      + (∑ i : Fin 11, if sm = .dma (rdRecv i) then NF i else 0) + ∑ l ∈ Finset.univ.erase (0 : Fin 32), if sm = .dma (resRecv l) then NT else 0 := by
  unfold O₀ owe
  simp only [Pi.add_apply, Finsupp.add_apply, Finset.sum_apply, Finsupp.finset_sum_apply]
  rw [Finset.sum_add_distrib, Finset.sum_add_distrib, Finset.sum_comm, Finset.sum_congr rfl fun r _ => sum_one sm (.reg barrier0) c (rmask r) 1,
    Finset.sum_comm (t := (Finset.univ : Finset (Fin 11))), Finset.sum_congr rfl fun i _ => sum_one sm (.dma (rdRecv i)) c (rmask (frd i)) (NF i),
    Finset.sum_comm (t := Finset.univ.erase (0 : Fin 32)), Finset.sum_congr rfl fun l _ => sum_one sm (.dma (resRecv l)) c l NT]

/-- What all devices owe to a cell is the credit that its owner starts with. -/
theorem credit_of (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The barrier is no flight's receive semaphore. -/
theorem bar_ne_sR (i : Fin 11) : (SemLoc.reg barrier0 : SemLoc sig) ≠ .dma (rdRecv i) := by rintro ⟨⟩
/-- The barrier is no tile's receive semaphore. -/
theorem bar_ne_rR (l : Fin 32) : (SemLoc.reg barrier0 : SemLoc sig) ≠ .dma (resRecv l) := by rintro ⟨⟩
/-- A flight's receive semaphore is no tile's. -/
theorem sR_ne_rR (i : Fin 11) (l : Fin 32) : (SemLoc.dma (rdRecv i) : SemLoc sig) ≠ .dma (resRecv l) := fun h => by
  have := congrArg kindOf h; rw [kind_sR, kind_rR] at this; cases this
/-- Different flights have different receive semaphores. -/
theorem sR_inj {i j : Fin 11} (h : (SemLoc.dma (rdRecv i) : SemLoc sig) = .dma (rdRecv j)) : i = j := by
  have := congrArg kindOf h; rw [kind_sR, kind_sR] at this; cases this; rfl
/-- Different tiles have different receive semaphores. -/
theorem rR_inj {i j : Fin 32} (h : (SemLoc.dma (resRecv i) : SemLoc sig) = .dma (resRecv j)) : i = j := by
  have := congrArg kindOf h; rw [kind_rR, kind_rR] at this; cases this; rfl

/-- Five signals are owed to each barrier. -/
theorem credit_bar (c : Dev nD) : (∑ d : Dev nD, O₀ d (barCell c) ()) = 5 := by
  rw [owed_at c (.reg barrier0), Finset.sum_congr rfl fun r _ => if_pos rfl, Finset.sum_eq_zero (fun i _ => if_neg (bar_ne_sR i)),
    Finset.sum_eq_zero (s := Finset.univ.erase (0 : Fin 32)) (fun l _ => if_neg (bar_ne_rR l))]
  simp
/-- One flight is owed to each flight's receive semaphore. -/
theorem credit_sR (c : Dev nD) (i : Fin 11) : (∑ d : Dev nD, O₀ d (sRCell c i) ()) = NF i := by
  rw [owed_at c (.dma (rdRecv i)), Finset.sum_eq_zero (fun r _ => if_neg (bar_ne_sR i).symm),
    Finset.sum_eq_single i (fun j _ hj => if_neg fun h => hj (sR_inj h).symm) (fun h => absurd (Finset.mem_univ _) h), if_pos rfl,
    Finset.sum_eq_zero (s := Finset.univ.erase (0 : Fin 32)) (fun l _ => if_neg (sR_ne_rR i l)), Nat.zero_add, Nat.add_zero]
/-- One tile is owed to each tile's receive semaphore. -/
theorem credit_rR (c : Dev nD) (l : Fin 32) (hl : l ∈ Finset.univ.erase (0 : Fin 32)) : (∑ d : Dev nD, O₀ d (rRCell c l) ()) = NT := by
  rw [owed_at c (.dma (resRecv l)), Finset.sum_eq_zero (fun r _ => if_neg (bar_ne_rR l).symm),
    Finset.sum_eq_zero (s := (Finset.univ : Finset (Fin 11))) (fun i _ => if_neg (sR_ne_rR i l).symm),
    Finset.sum_eq_single l (fun j _ hj => if_neg fun h => hj (rR_inj h).symm) (fun h => absurd hl h), if_pos rfl, Nat.zero_add, Nat.zero_add]

/-- The credit the launch gives a device is what it waits for. -/
theorem creds (c : Dev nD) : (Pipeline.launchCred O₀ c : sProp 𝕄) ⊢ credsOf c := by
  have hsub : (Pipeline.launchCred O₀ c : sProp 𝕄) ⊢ bigSep Finset.univ fun k : Fin 87 =>
      cred (tallyOn ((c : Thread nD τ), csem k) (launchCredit (Pipeline.owing O₀) 0 ((c : Thread nD τ), csem k))) := by
    unfold Pipeline.launchCred
    exact (bigSep_subset (Finset.subset_univ (Finset.univ.map ⟨csem, csem_inj⟩))).trans (Entails.of_eq (bigSep_map _))
  refine hsub.trans ?_
  rw [split87 (fun sm => (cred (tallyOn ((c : Thread nD τ), sm) (launchCredit (Pipeline.owing O₀) 0 ((c : Thread nD τ), sm))) : sProp 𝕄)),
    credit_of c _ _ (credit_bar c), bigSep_congr (fun (i : Fin 11) _ => congrArg cred (credit_of c (.dma (rdRecv i)) _ (credit_sR c i)))]
  unfold credsOf
  iintro ⟨Hb, -, HR, -, HT⟩
  isplitl [Hb]; · iexact Hb
  isplitl [HR]; · iexact HR
  iapply (show (bigSep (Finset.univ : Finset (Fin 32)) fun l => (cred (tallyOn ((c : Thread nD τ), (SemLoc.dma (resRecv l) : SemLoc sig)) (launchCredit (Pipeline.owing O₀) 0 ((c : Thread nD τ), SemLoc.dma (resRecv l)))) : sProp 𝕄))
      ⊢ bigSep (Finset.univ.erase (0 : Fin 32)) fun l => cred (tallyAt (rRCell c l) () NT) from
    (bigSep_subset (Finset.erase_subset _ _)).trans (bigSep_mono fun l hl => Entails.of_eq (congrArg cred (credit_of c (.dma (resRecv l)) _ (credit_rR c l hl)))))
  iexact HT

/-! ## The launch's side conditions -/

/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds (F := F) c) $$ Hcr
  imodintro
  unfold start G'
  icases HG with ⟨%K, %KS, #Hrec, Hl⟩
  isplitl
  · isplitr [Hc]
    · iexists K; iexists KS
      isplitr
      · unfold recs records
        icases Hrec with ⟨#H1, #H2, #H3⟩
        isplitr; · iexact H1
        isplitr; · iexact H2
        isplitr; · iexact H3
        iexact Hlev
      · iexact Hl
    · iexact Hc
  · iempintro

/-- With the scoped buffers this is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- The state after the body gives the semaphores at zero and the buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hz, Hr⟩
  ihave Hz := (Entails.of_eq (sems87 (F := F) c).symm) $$ Hz
  icases Hz with ⟨Ho, Hu⟩
  isplitl [Hu]; · iexact Hu
  isplitl [Ho]; · iexact Ho
  iexact Hr

/-- The pipeline's own semaphores are at the lowest level. -/
theorem stage_low : ∀ (w : Fin cfg0.W) (s : Fin (cfg0.win w).nbuf), lvOf (kindOf (.dma ((cfg0.win w).sem s))) = 0 := by decide +kernel

/-- A device that owes nothing may wait. -/
theorem mayWait0 (c : Dev nD) (sm : SemLoc sig) (hn : lvOf (kindOf sm) = 0) : (levAts L lv : sProp 𝕄) ⊢ MayWait (c : Thread nD τ) sm () 0 := by
  have h := mayWait (F := F) (B := ∅) (R := ∅) (S := ∅) c sm 0 hn (fun _ h => by simp at h) (fun _ h => by simp at h) (fun _ h => by simp at h)
  rwa [owe_none] at h

set_option maxRecDepth 20000 in
/-- So the pipeline may wait for them, whatever the device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (stage_low w s) (fun _ _ => Nat.one_pos) (fun _ _ => by omega) (fun _ _ => by omega)
    · exact mayWait0 c _ (stage_low w s)

/-! ## The run -/

/-- What window `w`'s array holds after the run. -/
def finalA (c : Dev nD) (w : Fin cfg0.W) : Buf (Elt F) ((cfg0.win w).arr.view.loc (c : Thread nD τ)) := (dats m ρ 0 c).arrAt w cfg0.N

/-- What a run ends with: each array its final contents, each semaphore zero. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- Every execution of the 32 devices ends, with each device's arrays at their computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold after the run what they held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.K
-- ==== Proof.RefValue.lean ====
module

public import proofs.«01_k».proof.Proof.Gen.ReferenceIdeal.Value
public import Idealize.ShloMosaic.PureOps.Ideal
public import Idealize.ShloMosaic.Lib.MatmulPlain

@[expose] public section

/-! What the reference leaves in its result: entry by entry, the scaled product of a row and a column, cut off below at zero. -/

noncomputable section

namespace Cert.ReferenceIdeal.K

open Cert.ReferenceIdeal Cert.ReferenceIdeal.Gen Cert.ReferenceIdeal.Value
open Idealize.ShloMosaic Idealize.ShloMosaic.TcCoe Idealize.ShloMosaic.ValueIdx Idealize.SL.Sem
open scoped BigOperators

/-- One entry of the result, from the operands. -/
def entry (x : FVec Ideal S4096x4096 .fp8e4m3) (w : FVec Ideal S4096x2048 .fp8e4m3) (sx sw : FVec Ideal S1 .f32) (r : Fin 4096) (c : Fin 2048) : EReal :=
  max ((∑ k : Fin 4096, (x (ix2 r k) : EReal) * (w (ix2 k c) : EReal)) * ((sx (ix1 (0 : Fin 1)) : EReal) * (sw (ix1 (0 : Fin 1)) : EReal))) 0

/-- The result, from the operands. -/
def result (x : FVec Ideal S4096x4096 .fp8e4m3) (w : FVec Ideal S4096x2048 .fp8e4m3) (sx sw : FVec Ideal S1 .f32) : FVec Ideal S4096x2048 .f32 :=
  fun (i : S4096x2048.Idx) => entry x w sx sw (i 0) (i 1)

/-- One entry of what the body stores. -/
theorem stored_at (x : Vec Ideal S4096x4096 .fp8e4m3) (w : Vec Ideal S4096x2048 .fp8e4m3) (sx sw : Vec Ideal S1 .f32) (r : Fin 4096) (q : Fin 2048) :
    k0_pay1 (F := Ideal) x w (sx (ix1 (0 : Fin 1))) (sw (ix1 (0 : Fin 1))) (ix2 r q) = entry x w sx sw r q := by
  have hmm := Ideal.matmul_plain_apply (M := 4096) (K := 4096) (N := 2048) (φ₁ := .f32) (φ₂ := .f32) none x w (constant (⟨2, ![4096, 2048]⟩ : Shape) .f32 0x00000000#32) r q
  rw [show (constant (F := Ideal) (⟨2, ![4096, 2048]⟩ : Shape) .f32 0x00000000#32 (ix2 r q)) = (0 : EReal) from Ideal.ofBits_zero_f32, zero_add] at hmm
  unfold entry
  rw [← hmm, ← Ideal.ofBits_zero_f32]
  rfl

/-- What the body stores is the result of what it loads. -/
theorem stored_eq (x : Vec Ideal S4096x4096 .fp8e4m3) (w : Vec Ideal S4096x2048 .fp8e4m3) (sx sw : Vec Ideal S1 .f32) :
    k0_pay1 (F := Ideal) x w (sx (ix1 (0 : Fin 1))) (sw (ix1 (0 : Fin 1))) = result x w sx sw :=
  funext fun (i : S4096x2048.Idx) => (congrArg _ (eq_ix2 i)).trans (stored_at x w sx sw (i 0) (i 1))

/-- Two offsets of zero. -/
theorem both_zero : (![0, 0] : Fin 2 → Nat) = fun _ => 0 := funext fun | 0 => rfl | 1 => rfl

/-- The output's staging buffer after the body. -/
theorem staged_eq (c : Dev nD) (a0 : Memref sig .tc .vmem S4096x4096 .fp8e4m3) (h0 : a0.IsWhole) (a1 : Memref sig .tc .vmem S4096x2048 .fp8e4m3) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x0 : Vec Ideal S4096x4096 .fp8e4m3) (x1 : Vec Ideal S4096x2048 .fp8e4m3) (x2 x3 : Vec Ideal S1 .f32) :
    out0_A_4 c a0 h0 a1 h1 a2 h2 a3 h3 a4 h4 x0 x1 x2 x3 = result x0 x1 x2 x3 := by
  rw [← stored_eq]
  unfold out0_A_4
  rw [View.read_writes_junk_eq_canon]
  show View.canon ([⟨Rect.unit (s := S4096x2048) ![0, 0] S4096x2048.size inb_S4096x2048_S4096x2048_0_0, k0_pay1 (F := Ideal)
      (View.readAt (Elt Ideal) a0.view (Rect.unit (s := S4096x4096) ![0, 0] S4096x4096.size inb_S4096x4096_S4096x4096_0_0).toLoadRect (h0.unread x0))
      (View.readAt (Elt Ideal) a1.view (Rect.unit (s := S4096x2048) ![0, 0] S4096x2048.size inb_S4096x2048_S4096x2048_0_0).toLoadRect (h1.unread x1))
      (View.readAt (Elt Ideal) a2.view (Rect.unit (s := S1) ![0] S1.size inb_S1_S1_0).toLoadRect (h2.unread x2) _)
      (View.readAt (Elt Ideal) a3.view (Rect.unit (s := S1) ![0] S1.size inb_S1_S1_0).toLoadRect (h3.unread x3) _)⟩] : List (View.Piece (Elt Ideal) S4096x2048 .f32)) = _
  rw [View.canon_unit_zero both_zero]
  simp only [View.readAt_eq_ld, h0.read_unread, h1.read_unread, h2.read_unread, h3.read_unread]
  rw [View.ld_unit_zero both_zero, View.ld_unit_zero both_zero]
  have hs (X : Vec Ideal S1 .f32) (y : (Rect.unit (s := S1) ![0] S1.size inb_S1_S1_0).toLoadRect.shape.Idx) :
      View.ld X (Rect.unit (s := S1) ![0] S1.size inb_S1_S1_0) y = X (ix1 (0 : Fin 1)) :=
    congrArg X (funext fun a => by
      match a with
      | ⟨0, _⟩ => exact Subsingleton.elim (α := Fin 1) _ _)
  exact congrArg₂ (k0_pay1 (F := Ideal) x0 x1) (hs x2 _) (hs x3 _)

variable (m : (ℓ : Loc nD τ sig) → Buf (Elt Ideal) ℓ) (ρ : Dev nD → PrngReg)

/-- Each window is its whole array. -/
theorem whole0 (t : Fin cfg0.N) (j : S4096x4096.Idx) : ((cfg0.win 0).blk t).view.emb j = j := by
  funext a; apply Fin.ext
  match a with
  | ⟨0, _⟩ => show 0 * 4096 + 1 * (j 0).val = (j 0).val; omega
  | ⟨1, _⟩ => show 0 * 4096 + 1 * (j 1).val = (j 1).val; omega
/-- The window of w is the whole array. -/
theorem whole1 (t : Fin cfg0.N) (j : S4096x2048.Idx) : ((cfg0.win 1).blk t).view.emb j = j := by
  funext a; apply Fin.ext
  match a with
  | ⟨0, _⟩ => show 0 * 4096 + 1 * (j 0).val = (j 0).val; omega
  | ⟨1, _⟩ => show 0 * 2048 + 1 * (j 1).val = (j 1).val; omega
/-- The window of x's scale is the whole array. -/
theorem whole2 (t : Fin cfg0.N) (j : S1.Idx) : ((cfg0.win 2).blk t).view.emb j = j := by
  funext a; apply Fin.ext
  match a with
  | ⟨0, _⟩ => show 0 * 1 + 1 * (j 0).val = (j 0).val; omega
/-- The window of w's scale is the whole array. -/
theorem whole3 (t : Fin cfg0.N) (j : S1.Idx) : ((cfg0.win 3).blk t).view.emb j = j := by
  funext a; apply Fin.ext
  match a with
  | ⟨0, _⟩ => show 0 * 1 + 1 * (j 0).val = (j 0).val; omega
/-- The window of the result is the whole array. -/
theorem whole4 (t : Fin cfg0.N) (j : S4096x2048.Idx) : ((cfg0.win 4).blk t).view.emb j = j := by
  funext a; apply Fin.ext
  match a with
  | ⟨0, _⟩ => show 0 * 4096 + 1 * (j 0).val = (j 0).val; omega
  | ⟨1, _⟩ => show 0 * 2048 + 1 * (j 1).val = (j 1).val; omega

/-- The result of the operands as the call finds them. -/
def final (c : Dev nD) : FVec Ideal S4096x2048 .f32 := result (V m c main_arg0) (V m c main_arg1) (V m c main_arg2) (V m c main_arg3)

/-- What is written back is the result. -/
theorem written (c : Dev nD) (t : Fin cfg0.N) : (dats m 0 c).flushed 4 t = ((cfg0.win 4).blk t).view.read (Elt Ideal) (final m c) := by
  have e0 : iblk m c 0 t = V m c main_arg0 := funext fun j => congrArg (V m c main_arg0) (whole0 t j)
  have e1 : iblk m c 1 t = V m c main_arg1 := funext fun j => congrArg (V m c main_arg1) (whole1 t j)
  have e2 : iblk m c 2 t = V m c main_arg2 := funext fun j => congrArg (V m c main_arg2) (whole2 t j)
  have e3 : iblk m c 3 t = V m c main_arg3 := funext fun j => congrArg (V m c main_arg3) (whole3 t j)
  rw [flushed4_A, staged_eq, e0, e1, e2, e3]
  exact funext fun j => (congrArg (final m c) (whole4 t j)).symm

/-- The result array after the run. -/
theorem after_run (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  refine ((dats m 0 c).arrAt_eq_of_cover 4 (final m c) (fun t _ => written m c t) fun i => ⟨⟨0, by decide⟩, flush0_4 _, ?_⟩).trans ?_
  · have h := ((cfg0.win 4).blk (⟨0, by decide⟩ : Fin cfg0.N)).view.emb_mem_set i
    rwa [whole4] at h
  · unfold final; rw [V_main_arg0, V_main_arg1, V_main_arg2, V_main_arg3]

end Cert.ReferenceIdeal.K
-- ==== Proof.KerValue.lean ====
module

public import proofs.«01_k».proof.Defs
public import proofs.«01_k».proof.Proof.Launch
public import proofs.«01_k».proof.Proof.RefValue
public import Idealize.ShloMosaic.PureOps.Ideal
public import Idealize.ShloMosaic.Lib.MatmulPlain
public import Idealize.ShloMosaic.Lib.Layout

@[expose] public section

/-! What the kernel leaves in its result, over exact values: each device's columns of what the reference leaves in its own. -/

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx
open Idealize.ShloMosaic.Pipeline (Dat Cfg Window BodyObligation cellOf)

open scoped BigOperators

variable (m : (ℓ : Loc nD τ sig) → Buf (Elt Ideal) ℓ) (ρ : Dev nD → PrngReg)

/-! ## A block, entry by entry -/

/-- The operands of a device, entry by entry. -/
def xE (d : Dev nD) (p : Fin 128) (k : Fin 4096) : EReal := xstg m ρ d (ix2 p k)
/-- The weight at row `k`, column `q` of device `o`'s block, as an extended real. -/
def wE (o : Dev nD) (k : Fin 4096) (q : Fin 64) : EReal := wstg m ρ o (ix2 k q)
/-- The scale of x, as an extended real. -/
def sxE (d : Dev nD) : EReal := sxstg m ρ d (ix1 (0 : Fin 1))
/-- The scale of w, as an extended real. -/
def swE (d : Dev nD) : EReal := swstg m ρ d (ix1 (0 : Fin 1))

/-- A row's product with a column, in the two halves that the kernel adds. -/
theorem sum_halves (f : Fin 4096 → EReal) :
    (∑ k : Fin 2048, f ⟨k.val, by omega⟩) + (∑ k : Fin 2048, f ⟨2048 + k.val, by omega⟩) = ∑ k : Fin 4096, f k :=
  (Fin.sum_univ_add (a := 2048) (b := 2048) f).symm

/-- The scale of a device. -/
theorem scale_eq (d : Dev nD) : (vS m ρ d : EReal) = sxE m ρ d * swE m ρ d := rfl

/-- The left half of the activations' columns, and the right half. -/
theorem act_left (d : Dev nD) (p : Fin 128) (k : Fin 2048) : (k0_pay3 (vX m ρ d) (ix2 p k) : EReal) = xE m ρ d p ⟨k.val, by omega⟩ := by
  unfold k0_pay3 vX k0_pay2
  dsimp only
  rw [shapeCast_same]
  exact extractStridedSlice_apply _ _ _ _ _ (fun a => match a with
    | ⟨0, _⟩ => (Nat.zero_add _).symm
    | ⟨1, _⟩ => (Nat.zero_add _).symm)
/-- The right half of the activations holds the positions from 2048 on. -/
theorem act_right (d : Dev nD) (p : Fin 128) (k : Fin 2048) : (k0_pay4 (vX m ρ d) (ix2 p k) : EReal) = xE m ρ d p ⟨2048 + k.val, by omega⟩ := by
  unfold k0_pay4 vX k0_pay2
  dsimp only
  rw [shapeCast_same]
  exact extractStridedSlice_apply _ _ _ _ _ (fun a => match a with
    | ⟨0, _⟩ => (Nat.zero_add _).symm
    | ⟨1, _⟩ => rfl)

/-- A slot's weights as a matrix. -/
def slab (o : Dev nD) : FVec Ideal S2048x128 .bf16 :=
  extf .bf16 (shapeCast S2048x128 (gw m ρ o) shapeCasts_S1x2048x128_S2048x128 : FVec Ideal S2048x128 .fp8e4m3) bitsLt_fp8e4m3_bf16
/-- A slot's entries are those of the packed weights. -/
theorem slab_at (o : Dev nD) (k : Fin 2048) (q : Fin 128) : (slab m ρ o (ix2 k q) : EReal) = wpk m ρ o k q :=
  shapeCast_down (a := 2048) (b := 128) (gw m ρ o) _ (ix2 k q)

/-- The left half of a slot's columns is the upper half of the rows, and the right half the lower. -/
theorem wts_left (o : Dev nD) (k : Fin 2048) (q : Fin 64) :
    (extractStridedSlice S2048x64 ![0, 0] (slab m ρ o) slices_S2048x128_o0_0_S2048x64 (ix2 k q) : EReal) = wE m ρ o ⟨k.val, by omega⟩ q := by
  refine (extractStridedSlice_apply _ _ _ _ (ix2 k (⟨q.val, by omega⟩ : Fin 128)) (fun a => match a with
    | ⟨0, _⟩ => (Nat.zero_add _).symm
    | ⟨1, _⟩ => (Nat.zero_add _).symm)).trans ((slab_at m ρ o k _).trans ?_)
  exact congrArg (wstg m ρ o) (funext fun a => match a with
    | ⟨0, _⟩ => Fin.ext (by show k.val + 2048 * (q.val / 64) = k.val; omega)
    | ⟨1, _⟩ => Fin.ext (by show q.val % 64 = q.val; omega))
/-- The right half of a slot holds the weights' rows from 2048 on. -/
theorem wts_right (o : Dev nD) (k : Fin 2048) (q : Fin 64) :
    (extractStridedSlice S2048x64 ![0, 64] (slab m ρ o) slices_S2048x128_o0_64_S2048x64 (ix2 k q) : EReal) = wE m ρ o ⟨2048 + k.val, by omega⟩ q := by
  refine (extractStridedSlice_apply _ _ _ _ (ix2 k (⟨64 + q.val, by omega⟩ : Fin 128)) (fun a => match a with
    | ⟨0, _⟩ => (Nat.zero_add _).symm
    | ⟨1, _⟩ => rfl)).trans ((slab_at m ρ o k _).trans ?_)
  exact congrArg (wstg m ρ o) (funext fun a => match a with
    | ⟨0, _⟩ => Fin.ext (by show k.val + 2048 * ((64 + q.val) / 64) = 2048 + k.val; omega)
    | ⟨1, _⟩ => Fin.ext (by show (64 + q.val) % 64 = q.val; omega))

/-- One of the two products that make a block. -/
theorem half_product (A : FVec Ideal S128x2048 .bf16) (B : FVec Ideal S2048x64 .bf16) (p : Fin 128) (q : Fin 64) :
    (matmul dot_S128x2048_S2048x64_S128x64_1_0_0_1_n_n none A B (constant S128x64 .f32 0x00000000#32) (ix2 p q) : EReal)
      = ∑ k : Fin 2048, (A (ix2 p k) : EReal) * (B (ix2 k q) : EReal) := by
  have h := Ideal.matmul_plain_apply (M := 128) (K := 2048) (N := 64) (φ₁ := .bf16) (φ₂ := .bf16) none A B (constant (⟨2, ![128, 64]⟩ : Shape) .f32 0x00000000#32) p q
  rw [show (constant (F := Ideal) (⟨2, ![128, 64]⟩ : Shape) .f32 0x00000000#32 (ix2 p q)) = (0 : EReal) from Ideal.ofBits_zero_f32, zero_add] at h
  exact h

/-- One entry of the block that device `d` computes with the weights of device `o`. -/
theorem blk_at (d o : Dev nD) (p : Fin 128) (q : Fin 64) :
    (blk m ρ d o (ix2 p q) : EReal) = max ((∑ k : Fin 4096, xE m ρ d p k * wE m ρ o k q)
      * (sxE m ρ d * swE m ρ d)) 0 := by
  have e : (blk m ρ d o (ix2 p q) : EReal)
      = max (((matmul dot_S128x2048_S2048x64_S128x64_1_0_0_1_n_n none (k0_pay3 (vX m ρ d)) (extractStridedSlice S2048x64 ![0, 0] (slab m ρ o) slices_S2048x128_o0_0_S2048x64) (constant S128x64 .f32 0x00000000#32) (ix2 p q) : EReal)
        + (matmul dot_S128x2048_S2048x64_S128x64_1_0_0_1_n_n none (k0_pay4 (vX m ρ d)) (extractStridedSlice S2048x64 ![0, 64] (slab m ρ o) slices_S2048x128_o0_64_S2048x64) (constant S128x64 .f32 0x00000000#32) (ix2 p q) : EReal))
        * (vS m ρ d : EReal)) (Ideal.ofBits .f32 0x00000000#32) := rfl
  rw [e, half_product, half_product, scale_eq, Ideal.ofBits_zero_f32, ← sum_halves]
  simp only [act_left, act_right, wts_left, wts_right]

/-- One entry of a device's result. -/
theorem Oc_at (c : Dev nD) (i : S4096x64.Idx) :
    (Oc m ρ c i : EReal) = (blk m ρ (rowDev i) c (ix2 (⟨(i 0).val % 128, by omega⟩ : Fin 128) (i 1 : Fin 64)) : EReal) := by
  unfold Oc
  by_cases h : rowDev i = c
  · rw [if_pos h, h]
  · rw [if_neg h]; rfl

/-! ## The arrays -/

/-- Each window is its whole array. -/
theorem whole0 (t : Fin cfg0.N) (j : S128x4096.Idx) : ((cfg0.win 0).blk t).view.emb j = j := by
  funext a; apply Fin.ext
  match a with
  | ⟨0, _⟩ => show 0 * 128 + 1 * (j 0).val = (j 0).val; omega
  | ⟨1, _⟩ => show 0 * 4096 + 1 * (j 1).val = (j 1).val; omega
/-- The window of the weights is the whole array. -/
theorem whole1 (t : Fin cfg0.N) (j : S4096x64.Idx) : ((cfg0.win 1).blk t).view.emb j = j := by
  funext a; apply Fin.ext
  match a with
  | ⟨0, _⟩ => show 0 * 4096 + 1 * (j 0).val = (j 0).val; omega
  | ⟨1, _⟩ => show 0 * 64 + 1 * (j 1).val = (j 1).val; omega
/-- The window of x's scale is the whole array. -/
theorem whole2 (t : Fin cfg0.N) (j : S1.Idx) : ((cfg0.win 2).blk t).view.emb j = j := by
  funext a; apply Fin.ext
  match a with
  | ⟨0, _⟩ => show 0 * 1 + 1 * (j 0).val = (j 0).val; omega
/-- The window of w's scale is the whole array. -/
theorem whole3 (t : Fin cfg0.N) (j : S1.Idx) : ((cfg0.win 3).blk t).view.emb j = j := by
  funext a; apply Fin.ext
  match a with
  | ⟨0, _⟩ => show 0 * 1 + 1 * (j 0).val = (j 0).val; omega
/-- The window of the result is the whole array. -/
theorem whole4 (t : Fin cfg0.N) (j : S4096x64.Idx) : ((cfg0.win 4).blk t).view.emb j = j := by
  funext a; apply Fin.ext
  match a with
  | ⟨0, _⟩ => show 0 * 4096 + 1 * (j 0).val = (j 0).val; omega
  | ⟨1, _⟩ => show 0 * 64 + 1 * (j 1).val = (j 1).val; omega

/-- The staged activations are the argument. -/
theorem xstg_eq (c : Dev nD) : xstg m ρ c = m ((c.tc : Thread nD τ).loc main_arg0) := funext fun j => congrArg (m ((c.tc : Thread nD τ).loc main_arg0)) (whole0 t0_0 j)
/-- The staged weights are the argument. -/
theorem wstg_eq (c : Dev nD) : wstg m ρ c = m ((c.tc : Thread nD τ).loc main_arg1) := funext fun j => congrArg (m ((c.tc : Thread nD τ).loc main_arg1)) (whole1 t0_0 j)
/-- The staged scale of x is the argument. -/
theorem sxstg_eq (c : Dev nD) : sxstg m ρ c = m ((c.tc : Thread nD τ).loc main_arg2) := funext fun j => congrArg (m ((c.tc : Thread nD τ).loc main_arg2)) (whole2 t0_0 j)
/-- The staged scale of w is the argument. -/
theorem swstg_eq (c : Dev nD) : swstg m ρ c = m ((c.tc : Thread nD τ).loc main_arg3) := funext fun j => congrArg (m ((c.tc : Thread nD τ).loc main_arg3)) (whole3 t0_0 j)

/-- The result array after the run. -/
theorem finalA_out (c : Dev nD) : finalA m ρ c 4 = Oc m ρ c := by
  refine (dats m ρ 0 c).arrAt_eq_of_cover 4 (Oc m ρ c) (fun t _ => funext fun j => (congrArg (Oc m ρ c) (whole4 t j)).symm) fun i => ⟨⟨0, by decide⟩, flush0_4 _, ?_⟩
  have h := ((cfg0.win 4).blk (⟨0, by decide⟩ : Fin cfg0.N)).view.emb_mem_set i
  rwa [whole4] at h

/-! ## The kernel's result is the reference's -/

section Agree

variable (x : FVec Ideal Cert.ReferenceIdeal.S4096x4096 .fp8e4m3) (w : FVec Ideal Cert.ReferenceIdeal.S4096x2048 .fp8e4m3) (sx sw : FVec Ideal Cert.ReferenceIdeal.S1 .f32)

/-- With each device's operands its parts of the reference's, each device's result is its part of the reference's. -/
theorem Oc_eq
    (h0 : ∀ c : Dev nD, m ((c.tc : Thread nD τ).loc main_arg0) = Layout.block ⟨2, ![128, 4096]⟩ ⟨2, ![4096, 4096]⟩ 0 32 c x)
    (h1 : ∀ c : Dev nD, m ((c.tc : Thread nD τ).loc main_arg1) = Layout.block ⟨2, ![4096, 64]⟩ ⟨2, ![4096, 2048]⟩ 1 32 c w)
    (h2 : ∀ c : Dev nD, m ((c.tc : Thread nD τ).loc main_arg2) = sx)
    (h3 : ∀ c : Dev nD, m ((c.tc : Thread nD τ).loc main_arg3) = sw) (c : Dev nD) :
    Oc m ρ c = Layout.block ⟨2, ![4096, 64]⟩ ⟨2, ![4096, 2048]⟩ 1 32 c (Cert.ReferenceIdeal.K.result x w sx sw) := by
  funext (i : S4096x64.Idx)
  have hi0 : (i 0).val < 4096 := idx2_lt0 i
  have hi1 : (i 1).val < 64 := idx2_lt1 i
  have hc : c.val < 32 := c.isLt
  refine (Oc_at m ρ c i).trans ((blk_at m ρ _ _ _ _).trans ?_)
  have hx (k : Fin 4096) : xE m ρ (rowDev i) ⟨(i 0).val % 128, by omega⟩ k = x (ix2 (⟨(i 0).val, hi0⟩ : Fin 4096) k) := by
    unfold xE; rw [xstg_eq, h0]
    exact congrArg x (funext fun a => match a with
      | ⟨0, _⟩ => Fin.ext (by show (i 0).val / 128 * 128 + (i 0).val % 128 = (i 0).val; omega)
      | ⟨1, _⟩ => rfl)
  have hw (k : Fin 4096) : wE m ρ c k (i 1 : Fin 64) = w (ix2 k (⟨c.val * 64 + (i 1).val, by omega⟩ : Fin 2048)) := by
    unfold wE; rw [wstg_eq, h1]
    exact congrArg w (funext fun a => match a with
      | ⟨0, _⟩ => rfl
      | ⟨1, _⟩ => rfl)
  simp only [hx, hw]
  unfold sxE swE
  rw [sxstg_eq, swstg_eq, h2, h3]
  refine Eq.trans ?_ (congrArg₂ (Cert.ReferenceIdeal.K.entry x w sx sw) (show (⟨(i 0).val, hi0⟩ : Fin 4096) = _ from rfl) (show (⟨c.val * 64 + (i 1).val, by omega⟩ : Fin 2048) = _ from rfl))
  rfl

end Agree

end Cert.KernelIdeal.K
-- ==== Proof.lean ====
/- The three frames, the equation with the reference, and the claim made of them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KerValue
public import Idealize.ShloMosaic.Adequacy
public import Idealize.ShloMosaic.Init

@[expose] public section

noncomputable section

namespace Cert.Proof

open Idealize.ShloMosaic Idealize.SL.Sem Cert.Kernel

/-- Every run of the 32 devices, over any values: the result computed, the arguments unchanged and every semaphore at zero. -/
theorem kernel_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_v1) = Cert.KernelIdeal.K.finalA m ρ c 4
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r h => ⟨fun c => ⟨h.1 c 4,
    (h.1 c 0).trans (Cert.KernelIdeal.K.finalA_in m ρ c 0 rfl), (h.1 c 1).trans (Cert.KernelIdeal.K.finalA_in m ρ c 1 rfl),
    (h.1 c 2).trans (Cert.KernelIdeal.K.finalA_in m ρ c 2 rfl), (h.1 c 3).trans (Cert.KernelIdeal.K.finalA_in m ρ c 3 rfl)⟩, h.2⟩)
    (Cert.KernelIdeal.K.run_main m ρ)

set_option maxHeartbeats 4000000 in
set_option maxRecDepth 20000 in
/-- The two printed kernels have the same body table. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg _ ?_
  funext l
  match l with
  | 0 => funext x; rfl

set_option maxHeartbeats 4000000 in
set_option maxRecDepth 20000 in
/-- So the table with each call's pipeline is the same too. -/
theorem defs_eq : @Cert.Kernel.defs Bits _ Cert.Kernel.Gen.facts = @Cert.KernelIdeal.defs Bits _ Cert.KernelIdeal.Gen.facts :=
  congrArg (Pipeline.defs (@Cert.Kernel.pcfgs Bits Cert.Kernel.Gen.facts)) bodies_eq

set_option maxHeartbeats 4000000 in
set_option maxRecDepth 20000 in
/-- The kernel over its own float words: the same text, so the same run. -/
theorem frame_kernel : Cert.quiescent_Kernel := fun m ρ _ => by
  rw [defs_eq]
  exact (θ_run Cert.KernelIdeal.defs (onTc (τ := Cert.KernelIdeal.τ) (Cert.KernelIdeal.main (F := Bits))) ⟨m, fun _ => 0, ρ⟩).mono
    (fun r h => ⟨fun c => (h.1 c).2, h.2⟩) (kernel_run (F := Bits) m ρ)

/-- The kernel at exact values. -/
theorem frame_kernelIdeal : Cert.quiescent_KernelIdeal := fun m ρ _ =>
  (θ_run Cert.KernelIdeal.defs _ _).mono (fun r h => ⟨fun c => (h.1 c).2, h.2⟩) (kernel_run (F := Ideal) m ρ)

/-- The reference at exact values. -/
theorem frame_referenceIdeal : Cert.quiescent_ReferenceIdeal := fun m ρ _ =>
  (θ_run Cert.ReferenceIdeal.defs _ _).mono (fun r h => ⟨fun c =>
      ⟨Cert.ReferenceIdeal.Value.kept_main_arg0 m r h.1 c, Cert.ReferenceIdeal.Value.kept_main_arg1 m r h.1 c,
        Cert.ReferenceIdeal.Value.kept_main_arg2 m r h.1 c, Cert.ReferenceIdeal.Value.kept_main_arg3 m r h.1 c⟩, h.2⟩)
    (Cert.ReferenceIdeal.Gen.run_main_quiescent m ρ)

/-- At exact values each device's result is its columns of the reference's. -/
theorem algebraic : Cert.algebraic_KernelIdeal_ReferenceIdeal := fun m ρ m' ρ' _ hargs => by
  refine ⟨Cert.ReferenceIdeal.K.result _ _ _ _,
    (θ_run Cert.KernelIdeal.defs _ _).mono (fun r h c => ⟨(h.1 c).1.trans ((Cert.KernelIdeal.K.finalA_out m ρ c).trans
      (Cert.KernelIdeal.K.Oc_eq m ρ _ _ _ _ (fun c => (hargs c).1) (fun c => (hargs c).2.1) (fun c => (hargs c).2.2.1) (fun c => (hargs c).2.2.2) c)), (h.1 c).2⟩)
      (kernel_run (F := Ideal) m ρ),
    (θ_run Cert.ReferenceIdeal.defs _ _).mono (fun r h => ⟨(h 0).1.trans (Cert.ReferenceIdeal.K.after_run m' 0), (h 0).2⟩)
      (Cert.ReferenceIdeal.Value.run_blocks m' ρ')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
